-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192 : Shape := ⟨2, ![4, 8192]⟩
abbrev S32768 : Shape := ⟨1, ![32768]⟩
abbrev S8192 : Shape := ⟨1, ![8192]⟩
abbrev S1024 : Shape := ⟨1, ![1024]⟩
abbrev S_ : Shape := ⟨0, ![]⟩
abbrev S16 : Shape := ⟨1, ![16]⟩
abbrev S4x8192x1 : Shape := ⟨3, ![4, 8192, 1]⟩
abbrev S512 : Shape := ⟨1, ![512]⟩
abbrev S1x512 : Shape := ⟨2, ![1, 512]⟩
abbrev S4x8192x1024 : Shape := ⟨3, ![4, 8192, 1024]⟩
abbrev S1x512x1 : Shape := ⟨3, ![1, 512, 1]⟩
abbrev S1x512x1024 : Shape := ⟨3, ![1, 512, 1024]⟩
abbrev S512x1 : Shape := ⟨2, ![512, 1]⟩
abbrev S512x512 : Shape := ⟨2, ![512, 512]⟩
abbrev S1x512x512 : Shape := ⟨3, ![1, 512, 512]⟩

abbrev nBuf : Table → Nat
  | .hbm => 13
  | .local .tc .vmem => 5
  | .local .scVector .vmem => 2
  | _ => 0

abbrev bufTy : (tb : Table) → Fin (nBuf tb) → BufTy
  | .hbm, ⟨0, _⟩ => ⟨S4x8192, .i1⟩
  | .hbm, ⟨1, _⟩ => ⟨S4x8192, .i1⟩
  | .hbm, ⟨2, _⟩ => ⟨S4x8192, .i32⟩
  | .hbm, ⟨3, _⟩ => ⟨S32768, .i32⟩
  | .hbm, ⟨4, _⟩ => ⟨S32768, .f32⟩
  | .hbm, ⟨5, _⟩ => ⟨S4x8192x1, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1x512, .f32⟩
  | .hbm, ⟨12, _⟩ => ⟨S4x8192x1024, .f32⟩
  | .local .tc .vmem, ⟨0, _⟩ => ⟨S1x512x1, .f32⟩
  | .local .tc .vmem, ⟨1, _⟩ => ⟨S1x512x1, .f32⟩
  | .local .tc .vmem, ⟨2, _⟩ => ⟨S1x512, .f32⟩
  | .local .tc .vmem, ⟨3, _⟩ => ⟨S1x512x1024, .f32⟩
  | .local .tc .vmem, ⟨4, _⟩ => ⟨S1x512x1024, .f32⟩
  | .local .scVector .vmem, ⟨0, _⟩ => ⟨S8192, .i32⟩
  | .local .scVector .vmem, ⟨1, _⟩ => ⟨S1024, .f32⟩
  | _, _ => ⟨S4x8192, .i1⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => true
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v2_scv : Ref sig .scVector := ⟨.hbm, 3, rfl⟩
abbrev main_v3_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v29 : BitVec 32 := Scalar.muli v18 c8192_i32
  ![v29.toNat]
@[reducible] def k0_t1_loop (i : grid0.Coords) : Scf.Loop 32 :=
  let c0_i32_10 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v31 : BitVec 32 := Scalar.muli v28 c64_i32
  let v32 : BitVec 32 := Scalar.subi v31 c0_i32_10
  let c1_i32_12 : BitVec 32 := 1#32
  let v34 : BitVec 32 := Scalar.divsi v32 c1_i32_12
  let v35 : BitVec 32 := Scalar.muli v34 c1_i32_12
  let v36 : BitVec 32 := Scalar.addi c0_i32_10 v35
  let c1_i32_13 : BitVec 32 := 1#32
  ⟨c0_i32_10, v36, c1_i32_13⟩
def k0_off2 (i : grid0.Coords) (k0_t1 : Fin (k0_t1_loop i).trips) : Fin 1 → Nat :=
  let c0_i32_10 : BitVec 32 := 0#32
  let c1_i32_13 : BitVec 32 := 1#32
  let arg7 : BitVec 32 := Scf.iv c0_i32_10 c1_i32_13 k0_t1
  let c16_i32_144 : BitVec 32 := 16#32
  let v940 : BitVec 32 := Scalar.muli arg7 c16_i32_144
  let v941 : Index := Scalar.indexCast v940
  ![v941.toNat]
@[reducible] def k0_t2_loop (i : grid0.Coords) : Scf.Loop 32 :=
  let c0_i32_10 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v31 : BitVec 32 := Scalar.muli v28 c64_i32
  let v32 : BitVec 32 := Scalar.subi v31 c0_i32_10
  let c1_i32_12 : BitVec 32 := 1#32
  let v34 : BitVec 32 := Scalar.divsi v32 c1_i32_12
  let v35 : BitVec 32 := Scalar.muli v34 c1_i32_12
  let v36 : BitVec 32 := Scalar.addi c0_i32_10 v35
  let v33 : BitVec 32 := Scalar.addi c0_i32_10 v32
  let c1_i32_14 : BitVec 32 := 1#32
  ⟨v36, v33, c1_i32_14⟩
def k0_off3 (i : grid0.Coords) (k0_t2 : Fin (k0_t2_loop i).trips) : Fin 1 → Nat :=
  let c0_i32_10 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v31 : BitVec 32 := Scalar.muli v28 c64_i32
  let v32 : BitVec 32 := Scalar.subi v31 c0_i32_10
  let c1_i32_12 : BitVec 32 := 1#32
  let v34 : BitVec 32 := Scalar.divsi v32 c1_i32_12
  let v35 : BitVec 32 := Scalar.muli v34 c1_i32_12
  let v36 : BitVec 32 := Scalar.addi c0_i32_10 v35
  let c1_i32_14 : BitVec 32 := 1#32
  let arg7 : BitVec 32 := Scf.iv v36 c1_i32_14 k0_t2
  let c16_i32_144 : BitVec 32 := 16#32
  let v940 : BitVec 32 := Scalar.muli arg7 c16_i32_144
  let v941 : Index := Scalar.indexCast v940
  ![v941.toNat]
def k0_off4 (i : grid0.Coords) (c0_i32_15 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v30 : BitVec 32 := Scalar.muli v28 c1024_i32
  let v39 : BitVec 32 := Scalar.addi v30 c0_i32_15
  let v40 : Index := Scalar.indexCast v39
  ![v40.toNat]
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v29 : BitVec 32 := Scalar.muli v18 c8192_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v30 : BitVec 32 := Scalar.muli v28 c1024_i32
  let v935 : BitVec 32 := Scalar.addi v29 v30
  ![v935.toNat]
abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192 : Shape := ⟨2, ![4, 8192]⟩
abbrev S512 : Shape := ⟨1, ![512]⟩
abbrev S_ : Shape := ⟨0, ![]⟩
abbrev S8193 : Shape := ⟨1, ![8193]⟩
abbrev S8193x1 : Shape := ⟨2, ![8193, 1]⟩
abbrev S1x512 : Shape := ⟨2, ![1, 512]⟩
abbrev S8193x512 : Shape := ⟨2, ![8193, 512]⟩
abbrev S8193x1024 : Shape := ⟨2, ![8193, 1024]⟩
abbrev S1 : Shape := ⟨1, ![1]⟩
abbrev S1024 : Shape := ⟨1, ![1024]⟩
abbrev S32768 : Shape := ⟨1, ![32768]⟩
abbrev S32768x1 : Shape := ⟨2, ![32768, 1]⟩
abbrev S1x1 : Shape := ⟨2, ![1, 1]⟩
abbrev S32768x1024 : Shape := ⟨2, ![32768, 1024]⟩
abbrev S4x8192x1024 : Shape := ⟨3, ![4, 8192, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x8192, .i1⟩
  | .hbm, ⟨1, _⟩ => ⟨S512, .f32⟩
  | .hbm, ⟨2, _⟩ => ⟨S_, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S8193, .f32⟩
  | .hbm, ⟨7, _⟩ => ⟨S8193x1, .f32⟩
  | .hbm, ⟨8, _⟩ => ⟨S1x512, .f32⟩
  | .hbm, ⟨9, _⟩ => ⟨S8193x512, .f32⟩
  | .hbm, ⟨10, _⟩ => ⟨S8193x512, .f32⟩
  | .hbm, ⟨11, _⟩ => ⟨S8193x512, .f32⟩
  | .hbm, ⟨12, _⟩ => ⟨S8193x512, .f32⟩
  | .hbm, ⟨13, _⟩ => ⟨S8193x512, .f32⟩
  | .hbm, ⟨14, _⟩ => ⟨S8193x1024, .f32⟩
  | .hbm, ⟨15, _⟩ => ⟨S_, .i32⟩
  | .hbm, ⟨16, _⟩ => ⟨S1, .i32⟩
  | .hbm, ⟨17, _⟩ => ⟨S_, .f32⟩
  | .hbm, ⟨18, _⟩ => ⟨S1024, .f32⟩
  | .hbm, ⟨19, _⟩ => ⟨S8193x1024, .f32⟩
  | .hbm, ⟨20, _⟩ => ⟨S4x8192, .i1⟩
  | .hbm, ⟨21, _⟩ => ⟨S_, .i32⟩
  | .hbm, ⟨22, _⟩ => ⟨S_, .i32⟩
  | .hbm, ⟨23, _⟩ => ⟨S4x8192, .i32⟩
  | .hbm, ⟨24, _⟩ => ⟨S4x8192, .i32⟩
  | .hbm, ⟨25, _⟩ => ⟨S4x8192, .i32⟩
  | .hbm, ⟨26, _⟩ => ⟨S4x8192, .i32⟩
  | .hbm, ⟨27, _⟩ => ⟨S_, .i32⟩
  | .hbm, ⟨28, _⟩ => ⟨S_, .i32⟩
  | .hbm, ⟨29, _⟩ => ⟨S4x8192, .i32⟩
  | .hbm, ⟨30, _⟩ => ⟨S4x8192, .i32⟩
  | .hbm, ⟨31, _⟩ => ⟨S4x8192, .i32⟩
  | .hbm, ⟨32, _⟩ => ⟨S_, .i32⟩
  | .hbm, ⟨33, _⟩ => ⟨S4x8192, .i32⟩
  | .hbm, ⟨34, _⟩ => ⟨S4x8192, .i32⟩
  | .hbm, ⟨35, _⟩ => ⟨S32768, .i32⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S_, .i32⟩
  | .hbm, ⟨40, _⟩ => ⟨S32768, .i32⟩
  | .hbm, ⟨41, _⟩ => ⟨S32768, .i32⟩
  | .hbm, ⟨42, _⟩ => ⟨S32768, .i32⟩
  | .hbm, ⟨43, _⟩ => ⟨S32768x1, .i32⟩
  | .hbm, ⟨44, _⟩ => ⟨S1, .i32⟩
  | .hbm, ⟨45, _⟩ => ⟨S_, .i32⟩
  | .hbm, ⟨46, _⟩ => ⟨S32768x1, .i32⟩
  | .hbm, ⟨47, _⟩ => ⟨S32768x1, .i1⟩
  | .hbm, ⟨48, _⟩ => ⟨S1x1, .i32⟩
  | .hbm, ⟨49, _⟩ => ⟨S32768x1, .i32⟩
  | .hbm, ⟨50, _⟩ => ⟨S32768x1, .i1⟩
  | .hbm, ⟨51, _⟩ => ⟨S32768x1, .i1⟩
  | .hbm, ⟨52, _⟩ => ⟨S_, .i1⟩
  | .hbm, ⟨53, _⟩ => ⟨S32768, .i1⟩
  | .hbm, ⟨54, _⟩ => ⟨S32768x1024, .f32⟩
  | .hbm, ⟨55, _⟩ => ⟨S32768x1024, .i1⟩
  | .hbm, ⟨56, _⟩ => ⟨S_, .f32⟩
  | .hbm, ⟨57, _⟩ => ⟨S32768x1024, .f32⟩
  | .hbm, ⟨58, _⟩ => ⟨S32768x1024, .f32⟩
  | .hbm, ⟨59, _⟩ => ⟨S4x8192x1024, .f32⟩
  | _, _ => ⟨S4x8192, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_1 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_call1_v0 : Ref sig .tc := ⟨.hbm, 26, rfl⟩
abbrev main_call1_call0_c : Ref sig .tc := ⟨.hbm, 27, rfl⟩
abbrev main_call1_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_call2_cst : Ref sig .tc := ⟨.hbm, 56, rfl⟩
abbrev main_call2_v15 : Ref sig .tc := ⟨.hbm, 57, rfl⟩
abbrev main_v24 : Ref sig .tc := ⟨.hbm, 58, rfl⟩
abbrev main_v25 : Ref sig .tc := ⟨.hbm, 59, rfl⟩

abbrev nD : Nat := 1
abbrev τ : Topo := Topo.v7x

variable {F : FTy → Type} [FloatOps F]
-- ==== Proof.Setup.lean ====
/-
  The program as the launch theorem sees it: its SparseCore configuration, the table of bodies beneath it, the algebra the
  run is stated in (the launch handshakes' rounds, the TensorCore pipeline's rounds, the transfers' counters), and the two
  arrays that the SparseCore call moves, split over its 32 tasks.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.LoopRemainder
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The configuration -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra -/

abbrev UH : Type := URounds (GSem nD τ sig) ℕ
abbrev UP : Type := UR sig nD τ
abbrev UU : Type := UH × (UP × Counters)

local notation "𝕄" => MT nD τ sig (HIx 1) (Elt F) ℕ UU ℕ

/-- The launch handshakes' rounds, -/
abbrev EH : Emb UH (MT nD τ sig (HIx 1) (Elt F) ℕ UU ℕ) := embL
/-- and the TensorCore pipeline's. -/
abbrev EP : Emb UP (MT nD τ sig (HIx 1) (Elt F) ℕ UU ℕ) := (Emb.inl : Emb UP (UP × Counters)).trans embR

/-! ## The SparseCore call's two arrays -/

/-- The mask words (the call's operand) and the positions (its result), as locations of device `d`. -/
abbrev xLoc (d : Dev nD) : Loc nD τ sig := (SparseCore.T d).loc main_v2
abbrev oLoc (d : Dev nD) : Loc nD τ sig := (SparseCore.T d).loc main_v3

theorem hdiv : 32 ∣ S32768.size 0 := ⟨1024, rfl⟩
/-- Task `k`'s part of the result: 1024 positions. -/
abbrev part (k : Fin 32) : Rect S32768 := Rect.part (s := S32768) (a₀ := 0) hdiv k
abbrev partSet (k : Fin 32) : Finset S32768.Idx := (part k).set

/-- The number of the task on SparseCore `c`, vector subcore `s`: two tasks to a subcore number. -/
def wid (c : Fin 2) (s : Fin 16) : Fin 32 := ⟨2 * s.val + c.val, by omega⟩

end Cert.Proof
-- ==== Proof.Psum.lean ====
/-
  What the SparseCore tasks compute, as words: the running sum of a mask row, one block of sixteen at a time. Sums of 32-bit
  words are sums in a commutative ring, so nothing here needs a bound on the entries.
-/
module

public import proofs.«01_k».proof.Proof.Gen.KernelIdeal.Skeleton
public import Mathlib.Data.BitVec
public import Mathlib.Algebra.BigOperators.Group.Finset.Basic

@[expose] public section

noncomputable section

namespace Cert.Proof

open Cert.KernelIdeal Cert.KernelIdeal.Gen
open Idealize.ShloMosaic

/-- Entry `n` of the flat mask (zero past its end). -/
def xw (x : IVec S32768 32) (n : ℕ) : BitVec 32 := if h : n < 32768 then x (Shape.ofLane ⟨n, h⟩) else 0

/-- The sum of the `n` entries from entry `a` on. -/
def psum (x : IVec S32768 32) (a n : ℕ) : BitVec 32 := ∑ j ∈ Finset.range n, xw x (a + j)

/-- Entry `g` of the positions, as a word: the running sum of its row of 8192 up to and with `g`, times the mask. -/
def posW (x : IVec S32768 32) (g : ℕ) : BitVec 32 := psum x (8192 * (g / 8192)) (g % 8192 + 1) * xw x g

theorem psum_zero (x : IVec S32768 32) (a : ℕ) : psum x a 0 = 0#32 := rfl

theorem psum_add (x : IVec S32768 32) (a n k : ℕ) :
    psum x a (n + k) = psum x a n + ∑ j ∈ Finset.range k, xw x (a + n + j) := by
  unfold psum
  rw [Finset.sum_range_add]
  simp only [Nat.add_assoc]

/-- The scan of sixteen words at lane `k`: the sum of the first `k + 1`. -/
theorem scan_lane (v : IVec S16 32) (k : Fin 16) :
    scan .sum v (Shape.ofLane k) = ∑ j ∈ Finset.range (k.val + 1), if h : j < 16 then v (Shape.ofLane ⟨j, h⟩) else 0 := by
  fin_cases k <;>
  · simp only [Finset.sum_range_succ, Finset.sum_range_zero, zero_add]
    rfl

/-- A lane index, as a number below sixteen. -/
abbrev ln (y : S16.Idx) : Fin 16 := y 0

theorem ofLane_ln (y : S16.Idx) : (Shape.ofLane (d := ![16]) (ln y) : S16.Idx) = y := by
  funext a; match a with | 0 => rfl

theorem scan_apply (v : IVec S16 32) (y : S16.Idx) (x : IVec S32768 32) (b : ℕ)
    (hv : ∀ j : Fin 16, v (Shape.ofLane j) = xw x (b + j.val)) :
    scan .sum v y = ∑ j ∈ Finset.range ((y 0).val + 1), xw x (b + j) := by
  refine (congrArg (scan .sum v) (ofLane_ln y)).symm.trans ((scan_lane v (ln y)).trans ?_)
  refine Finset.sum_congr rfl fun j hj => ?_
  have h : j < 16 := lt_of_lt_of_le (Finset.mem_range.mp hj) (y 0).isLt
  rw [dif_pos h]; exact hv ⟨j, h⟩

/-- The carry after a block: the sum of the block's sixteen entries added. -/
theorem carry_step (v : IVec S16 32) (x : IVec S32768 32) (a n : ℕ)
    (hv : ∀ j : Fin 16, v (Shape.ofLane j) = xw x (a + n + j.val)) (h : ∀ i, (![15] : Fin 1 → ℕ) i < S16.size i) :
    Scalar.addi (psum x a n) (extractAt ![15] (scan .sum v) h) = psum x a (n + 16) := by
  rw [psum_add]
  show psum x a n + scan .sum v _ = _
  rw [scan_apply v _ x (a + n) hv]
  rfl

/-- The words a block stores. -/
theorem block_word (v : IVec S16 32) (x : IVec S32768 32) (a n : ℕ)
    (hv : ∀ j : Fin 16, v (Shape.ofLane j) = xw x (a + n + j.val)) (y : S16.Idx) :
    muli (addi (scan .sum v) (broadcast S16 (psum x a n))) v y
      = psum x a (n + (y 0).val + 1) * xw x (a + n + (y 0).val) := by
  show (scan .sum v y + psum x a n) * v y = _
  rw [scan_apply v y x (a + n) hv, add_comm, ← psum_add, ← Nat.add_assoc]
  exact congrArg (psum x a (n + (y 0).val + 1) * ·) ((congrArg v (ofLane_ln y)).symm.trans (hv (ln y)))

/-- In row `r`, the words of entry `8192 r + n` are the positions'. -/
theorem posW_row (x : IVec S32768 32) (r n : ℕ) (hn : n < 8192) :
    psum x (8192 * r) (n + 1) * xw x (8192 * r + n) = posW x (8192 * r + n) := by
  unfold posW
  rw [show (8192 * r + n) / 8192 = r by omega, show (8192 * r + n) % 8192 = n by omega]

end Cert.Proof
-- ==== Proof.Tile.lean ====
/-
  The SparseCore task, run once at a symbolic (SparseCore, vector subcore) pair.
-/
module

public import proofs.«01_k».proof.Proof.Setup
public import proofs.«01_k».proof.Proof.Psum

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- the task's arrays and scratches as the table of bodies passes them
local notation "xV" => (Memref.whole Cert.KernelIdeal.main_v2_scv : Memref Cert.KernelIdeal.sig Kind.scVector Space.hbm Cert.KernelIdeal.S32768 EltTy.i32)
local notation "oV" => (Memref.whole Cert.KernelIdeal.main_v3_scv : Memref Cert.KernelIdeal.sig Kind.scVector Space.hbm Cert.KernelIdeal.S32768 EltTy.f32)
local notation "rV" => (Memref.whole Cert.KernelIdeal.cc0_scratch0 : Memref Cert.KernelIdeal.sig Kind.scVector Space.vmem Cert.KernelIdeal.S8192 EltTy.i32)
local notation "pV" => (Memref.whole Cert.KernelIdeal.cc0_scratch1 : Memref Cert.KernelIdeal.sig Kind.scVector Space.vmem Cert.KernelIdeal.S1024 EltTy.f32)

variable (d : Dev nD) (L : grid0.Coords)

abbrev cV (L : grid0.Coords) : Fin τ.nSC := (L 0).castLE hcore0
abbrev jV (L : grid0.Coords) : Fin τ.nSub := (L 1).castLE hsub0
/-- The task's thread. -/
abbrev thr (d : Dev nD) (L : grid0.Coords) : Thread nD τ := V d (cV L) (jV L)

/-- The task's part of the result, as the body spells it. -/
abbrev oRect (L : grid0.Coords) : Rect S32768 := Rect.unit (s := S32768) (k0_off5 L) S1024.size (k0_off5_inb L)
abbrev oSl (L : grid0.Coords) : Memref sig .scVector .hbm S1024 .f32 := (oV).slice (oRect L) (fun _ => rfl)
abbrev xSl (L : grid0.Coords) : Memref sig .scVector .hbm S8192 .i32 := (xV).slice (Rect.unit (s := S32768) (k0_off1 L) S8192.size (k0_off1_inb L)) (fun _ => rfl)

/-! ## Where the task reads and writes -/

/-- The task's number, its row of the mask, and its part of that row. -/
def wd (L : grid0.Coords) : ℕ := 2 * (L 1).val + (L 0).val
abbrev rw' (L : grid0.Coords) : ℕ := 8192 * (wd L / 8)
abbrev pt (L : grid0.Coords) : ℕ := 1024 * (wd L % 8)

theorem wd_lt (L : grid0.Coords) : wd L < 32 := by
  have h0 : (L 0).val < 2 := (L 0).isLt
  have h1 : (L 1).val < 16 := (L 1).isLt
  unfold wd; omega

theorem off1_eq : ∀ L : grid0.Coords, k0_off1 L = ![8192 * ((2 * (L 1).val + (L 0).val) / 8)] := by decide +kernel
theorem off5_eq : ∀ L : grid0.Coords, k0_off5 L = ![1024 * (2 * (L 1).val + (L 0).val)] := by decide +kernel
theorem off4_eq : ∀ (L : grid0.Coords) (r : Fin 64),
    k0_off4 L (BitVec.ofNat 32 (16 * r.val)) = ![1024 * ((2 * (L 1).val + (L 0).val) % 8) + 16 * r.val] := by decide +kernel
theorem trips_eq : ∀ L : grid0.Coords, (k0_t1_loop L).trips = 64 * ((2 * (L 1).val + (L 0).val) % 8) := by decide +kernel
theorem off2_eq : ∀ (L : grid0.Coords) (k : Fin (k0_t1_loop L).trips), k0_off2 L k = ![16 * k.val] := by decide +kernel

/-- A block of sixteen words loaded from the fetched row. -/
theorem row_read (x : Buf (Elt F) ((xV).view.loc (thr d L))) (fr : Buf (Elt F) ((rV).view.loc (thr d L))) (off : Fin 1 → ℕ) (n : ℕ)
    (ho : off = ![n]) (inb : ∀ a, off a + S16.size a ≤ S8192.size a) (j : Fin 16) :
    ((rV).view.readAt (Elt F) (Rect.unit (s := S8192) off S16.size inb).toLoadRect
      ((rV).view.write (Elt F) fr ((xSl L).view.read (Elt F) x) Finset.univ) : IVec S16 32) (Shape.ofLane j)
      = xw x (rw' L + n + j.val) := by
  subst ho
  have h1 := wd_lt L
  have h2 := inb 0
  simp at h2
  rw [View.readAt_apply, View.read_write_univ, View.read_apply]
  have hlt : rw' L + n + j.val < 32768 := by unfold rw'; have := j.isLt; omega
  unfold xw
  rw [dif_pos hlt]
  show x _ = x _
  congr 1
  funext a
  match a with
  | 0 =>
    apply Fin.ext
    show k0_off1 L 0 + 1 * (n + 1 * j.val) = rw' L + n + j.val
    rw [off1_eq]
    show 8192 * (wd L / 8) + _ = _
    unfold rw'
    omega

/-- Before trip `t` of the loop over the row's earlier blocks: the row, and the sum of its first `16 t` entries. -/
def inv (x : Buf (Elt F) ((xV).view.loc (thr d L))) (row : Buf (Elt F) ((rV).view.loc (thr d L))) (t : ℕ) (acc : BitVec 32) : sProp 𝕄 :=
  iprop(((rV).view.loc (thr d L) ↦{fullShare} row) ∗ ⌜acc = psum x (rw' L) (16 * t)⌝)

/-! ## The task's part of the row, block by block -/

/-- Block `k` of the task's part of the row, and the sum of the row before it. -/
def Bk (x : Buf (Elt F) ((xV).view.loc (thr d L))) (k : ℕ) : IVec S16 32 := fun y => xw x (rw' L + (pt L + 16 * k) + (y 0).val)
def Ck (x : Buf (Elt F) ((xV).view.loc (thr d L))) (k : ℕ) : BitVec 32 := psum x (rw' L) (pt L + 16 * k)

/-- What the task leaves at entry `z` of its part. -/
def Gt (x : Buf (Elt F) ((xV).view.loc (thr d L))) : FVec F S1024 .f32 :=
  sitofp .f32 (fun z => psum x (rw' L) (pt L + (z 0).val + 1) * xw x (rw' L + (pt L + (z 0).val)))

theorem Bk_lane (x : Buf (Elt F) ((xV).view.loc (thr d L))) (k : ℕ) (j : Fin 16) :
    Bk d L x k (Shape.ofLane j) = xw x (rw' L + (pt L + 16 * k) + j.val) := rfl

theorem load_eq (x : Buf (Elt F) ((xV).view.loc (thr d L))) (fr : Buf (Elt F) ((rV).view.loc (thr d L))) (k : ℕ) (hk : k < 64)
    (inb : ∀ a, k0_off4 L (BitVec.ofNat 32 (16 * k)) a + S16.size a ≤ S8192.size a) :
    ((rV).view.readAt (Elt F) (Rect.unit (s := S8192) (k0_off4 L (BitVec.ofNat 32 (16 * k))) S16.size inb).toLoadRect
      ((rV).view.write (Elt F) fr ((xSl L).view.read (Elt F) x) Finset.univ) : IVec S16 32) = Bk d L x k := by
  funext y
  rw [← ofLane_ln y, Bk_lane]
  exact row_read d L x fr _ _ (off4_eq L ⟨k, hk⟩) inb (ln y)

theorem step_eq (x : Buf (Elt F) ((xV).view.loc (thr d L))) (k : ℕ) :
    Scalar.addi (Ck d L x k) (extractAt ![15] (scan .sum (Bk d L x k)) inpos_S16_p15) = Ck d L x (k + 1) := by
  unfold Ck
  rw [carry_step (Bk d L x k) x (rw' L) (pt L + 16 * k) (Bk_lane d L x k), Nat.add_assoc, Nat.mul_succ]

theorem pc (x : Buf (Elt F) ((xV).view.loc (thr d L))) (k m : ℕ) (hm : m = 16 * k) (h : ∀ a, (![m] : Fin 1 → ℕ) a + S16.size a ≤ S1024.size a)
    (y : S16.Idx) :
    sitofp (F := F) .f32 (muli (addi (scan .sum (Bk d L x k)) (broadcast S16 (Ck d L x k))) (Bk d L x k)) y
      = Gt d L x ((Rect.unit (s := S1024) ![m] S16.size h).emb y) := by
  subst hm
  have e : (((Rect.unit (s := S1024) ![16 * k] S16.size h).emb y) 0).val = 16 * k + (y 0).val := by
    show 16 * k + 1 * (y 0).val = _
    omega
  unfold Gt
  show FloatOps.sitofp .f32 _ = FloatOps.sitofp .f32 _
  refine congrArg (FloatOps.sitofp .f32) ?_
  show _ = psum x (rw' L) (pt L + (((Rect.unit (s := S1024) ![16 * k] S16.size h).emb y) 0).val + 1)
    * xw x (rw' L + (pt L + (((Rect.unit (s := S1024) ![16 * k] S16.size h).emb y) 0).val))
  rw [e]
  refine (block_word (Bk d L x k) x (rw' L) (pt L + 16 * k) (Bk_lane d L x k) y).trans ?_
  simp only [Nat.add_assoc]

/-- The positions of the whole array: entry `g` counts the mask's row up to and with `g`, where the mask is set. -/
def posV (x : IVec S32768 32) : FVec F S32768 .f32 := sitofp .f32 (fun y => posW x (y 0).val)

/-- The task's part of the positions. -/
theorem Gt_eq (x : Buf (Elt F) ((xV).view.loc (thr d L))) (z : S1024.Idx) : Gt d L x z = posV (F := F) x ((oSl L).view.emb z) := by
  have e : (((oSl L).view.emb z) 0).val = 1024 * wd L + (z 0).val := by
    show k0_off5 L 0 + 1 * (z 0).val = _
    rw [off5_eq]
    show 1024 * wd L + _ = _
    omega
  have hz : (z 0).val < 1024 := (z 0).isLt
  have hw := wd_lt L
  unfold Gt posV
  show FloatOps.sitofp .f32 _ = FloatOps.sitofp .f32 (posW x (((oSl L).view.emb z) 0).val)
  rw [e, show 1024 * wd L + (z 0).val = 8192 * (wd L / 8) + (pt L + (z 0).val) by unfold pt; omega,
    ← posW_row x _ _ (by unfold pt; omega)]

set_option maxHeartbeats 4000000 in
theorem tile_run (q : PosShare TreeShare) (x : Buf (Elt F) ((xV).view.loc (thr d L))) (o : Buf (Elt F) ((oV).view.loc (thr d L)))
    (fr : Buf (Elt F) ((rV).view.loc (thr d L))) (fp : Buf (Elt F) ((pV).view.loc (thr d L)))
    (O : CellTallies nD τ sig (HIx 1)) (W : Waits sig (HIx 1)) :
    (iprop(Transfers.MayWaits (thr d L) (default : HIx 1) O
        ∗ ((xV).view.loc (thr d L) ↦[(xV).view.set]{q} x)
        ∗ ((oSl L).view.loc (thr d L) ↦[(oSl L).view.set]{fullShare} o)
        ∗ ((rV).view.loc (thr d L) ↦{fullShare} fr)
        ∗ ((pV).view.loc (thr d L) ↦{fullShare} fp)
        ∗ semVal (thr d L, SemLoc.dma cc0_scoped0.sem) 0
        ∗ semVal (thr d L, SemLoc.dma cc0_scratch2.sem) 0
        ∗ owes (thr d L) O W) : sProp 𝕄)
      ⊢ wp frame (wpE (defs₀ (F := F)) 𝒱₀ (thr d L) none) Set.univ
          (cc0__sc_pos_body L xV (Memref.isWhole_whole _) oV (Memref.isWhole_whole _) rV (Memref.isWhole_whole _) pV (Memref.isWhole_whole _) cc0_scratch2 cc0_scoped0)
          fun _ => iprop(((xV).view.loc (thr d L) ↦[(xV).view.set]{q} x)
            ∗ ((oSl L).view.loc (thr d L) ↦[(oSl L).view.set]{fullShare} (posV (F := F) x : Buf (Elt F) ((oV).view.loc (thr d L))))
            ∗ (∃ f, (rV).view.loc (thr d L) ↦{fullShare} f) ∗ (∃ f, (pV).view.loc (thr d L) ↦{fullShare} f)
            ∗ semVal (thr d L, SemLoc.dma cc0_scoped0.sem) 0 ∗ semVal (thr d L, SemLoc.dma cc0_scratch2.sem) 0
            ∗ ∃ W', ⌜∀ p ∈ W', p ∈ W ∨ p.2 = none ∨ p.2 = some (0 : Fin 1)⌝ ∗ owes (thr d L) O W') := by
  rw [cc0__sc_pos_body_eq_skeleton]; unfold cc0__sc_pos_body_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  iintro ⟨Hmw, Hx, Ho, Hr, Hp, HsA, HsB, HO⟩
  set_option sl_exec.resultNames true in
  sl_exec (disch := first | exact View.amount_pos _ _ (show 0 < S8192.numel by decide) | exact View.amount_pos _ _ (show 0 < S1024.numel by decide))
  sl_for (inv d L x ((rV).view.write (Elt F) fr ((xSl L).view.read (Elt F) x) Finset.univ)) $$ [Hr]
  case region =>
    intro k acc
    unfold inv
    iintro ⟨Hr, %hacc⟩
    sl_exec
    sl_step
    isplitl [Hr]; · iexact Hr
    ipureintro
    subst hacc
    exact carry_step _ x (rw' L) (16 * k.val) (fun j => row_read d L x fr _ _ (off2_eq L k) _ j) inpos_S16_p15
  · unfold inv
    isplitl [Hr]; · iexact Hr
    ipureintro; rfl
  iintro %acc HI
  unfold inv
  icases HI with ⟨Hr, %hacc⟩
  have hacc' : acc = Ck d L x 0 := by
    rw [hacc]
    refine congrArg (psum x (rw' L)) ?_
    rw [show Scf.trips (k0_t1_loop L).lb (k0_t1_loop L).ub (k0_t1_loop L).st = 64 * (wd L % 8) from trips_eq L]
    unfold pt; omega
  clear hacc
  subst hacc'
  set_option sl_exec.resultNames true in
  sl_exec
  sl_step
  have ho : ∀ y ∈ (oSl L).view.set, (oSl L).view.writes (Elt F) o [⟨Rect.whole S1024, tile_run.sl.dma192 d L x fr fp⟩] y
      = (posV (F := F) x : Buf (Elt F) ((oV).view.loc (thr d L))) y := by
    intro y hy
    obtain ⟨z, -, rfl⟩ := Finset.mem_map.mp hy
    rw [← Gt_eq d L x z]
    have hread : (oSl L).view.writes (Elt F) o [⟨Rect.whole S1024, tile_run.sl.dma192 d L x fr fp⟩] ((oSl L).view.emb z)
        = tile_run.sl.dma192 d L x fr fp z := by
      rw [View.writes_singleton]
      have he : ((oSl L).view.slice (Rect.whole S1024)).emb z = (oSl L).view.emb z := congrArg (oSl L).view.emb (Rect.emb_whole_apply S1024 z)
      rw [← he]
      exact View.write_emb_of_mem _ _ (Finset.mem_univ z)
    rw [hread]
    show (pV).view.read (Elt F) ((pV).view.writes (Elt F) fp (tile_run.sl.Hp_64 d L x fr)) z = _
    refine View.read_writes_apply_of_pieces (pV).view fp (Gt d L x) _ ?_ z ?_
    · have step := step_eq d L x
      have pc := pc d L x
      have v41 : tile_run.sl.v41 d L x fr = Bk d L x 0 := load_eq d L x fr 0 (by decide) _
      have v55 : tile_run.sl.v55 d L x fr = Bk d L x 1 := load_eq d L x fr 1 (by decide) _
      have v69 : tile_run.sl.v69 d L x fr = Bk d L x 2 := load_eq d L x fr 2 (by decide) _
      have v83 : tile_run.sl.v83 d L x fr = Bk d L x 3 := load_eq d L x fr 3 (by decide) _
      have v97 : tile_run.sl.v97 d L x fr = Bk d L x 4 := load_eq d L x fr 4 (by decide) _
      have v111 : tile_run.sl.v111 d L x fr = Bk d L x 5 := load_eq d L x fr 5 (by decide) _
      have v125 : tile_run.sl.v125 d L x fr = Bk d L x 6 := load_eq d L x fr 6 (by decide) _
      have v139 : tile_run.sl.v139 d L x fr = Bk d L x 7 := load_eq d L x fr 7 (by decide) _
      have v153 : tile_run.sl.v153 d L x fr = Bk d L x 8 := load_eq d L x fr 8 (by decide) _
      have v167 : tile_run.sl.v167 d L x fr = Bk d L x 9 := load_eq d L x fr 9 (by decide) _
      have v181 : tile_run.sl.v181 d L x fr = Bk d L x 10 := load_eq d L x fr 10 (by decide) _
      have v195 : tile_run.sl.v195 d L x fr = Bk d L x 11 := load_eq d L x fr 11 (by decide) _
      have v209 : tile_run.sl.v209 d L x fr = Bk d L x 12 := load_eq d L x fr 12 (by decide) _
      have v223 : tile_run.sl.v223 d L x fr = Bk d L x 13 := load_eq d L x fr 13 (by decide) _
      have v237 : tile_run.sl.v237 d L x fr = Bk d L x 14 := load_eq d L x fr 14 (by decide) _
      have v251 : tile_run.sl.v251 d L x fr = Bk d L x 15 := load_eq d L x fr 15 (by decide) _
      have v265 : tile_run.sl.v265 d L x fr = Bk d L x 16 := load_eq d L x fr 16 (by decide) _
      have v279 : tile_run.sl.v279 d L x fr = Bk d L x 17 := load_eq d L x fr 17 (by decide) _
      have v293 : tile_run.sl.v293 d L x fr = Bk d L x 18 := load_eq d L x fr 18 (by decide) _
      have v307 : tile_run.sl.v307 d L x fr = Bk d L x 19 := load_eq d L x fr 19 (by decide) _
      have v321 : tile_run.sl.v321 d L x fr = Bk d L x 20 := load_eq d L x fr 20 (by decide) _
      have v335 : tile_run.sl.v335 d L x fr = Bk d L x 21 := load_eq d L x fr 21 (by decide) _
      have v349 : tile_run.sl.v349 d L x fr = Bk d L x 22 := load_eq d L x fr 22 (by decide) _
      have v363 : tile_run.sl.v363 d L x fr = Bk d L x 23 := load_eq d L x fr 23 (by decide) _
      have v377 : tile_run.sl.v377 d L x fr = Bk d L x 24 := load_eq d L x fr 24 (by decide) _
      have v391 : tile_run.sl.v391 d L x fr = Bk d L x 25 := load_eq d L x fr 25 (by decide) _
      have v405 : tile_run.sl.v405 d L x fr = Bk d L x 26 := load_eq d L x fr 26 (by decide) _
      have v419 : tile_run.sl.v419 d L x fr = Bk d L x 27 := load_eq d L x fr 27 (by decide) _
      have v433 : tile_run.sl.v433 d L x fr = Bk d L x 28 := load_eq d L x fr 28 (by decide) _
      have v447 : tile_run.sl.v447 d L x fr = Bk d L x 29 := load_eq d L x fr 29 (by decide) _
      have v461 : tile_run.sl.v461 d L x fr = Bk d L x 30 := load_eq d L x fr 30 (by decide) _
      have v475 : tile_run.sl.v475 d L x fr = Bk d L x 31 := load_eq d L x fr 31 (by decide) _
      have v489 : tile_run.sl.v489 d L x fr = Bk d L x 32 := load_eq d L x fr 32 (by decide) _
      have v503 : tile_run.sl.v503 d L x fr = Bk d L x 33 := load_eq d L x fr 33 (by decide) _
      have v517 : tile_run.sl.v517 d L x fr = Bk d L x 34 := load_eq d L x fr 34 (by decide) _
      have v531 : tile_run.sl.v531 d L x fr = Bk d L x 35 := load_eq d L x fr 35 (by decide) _
      have v545 : tile_run.sl.v545 d L x fr = Bk d L x 36 := load_eq d L x fr 36 (by decide) _
      have v559 : tile_run.sl.v559 d L x fr = Bk d L x 37 := load_eq d L x fr 37 (by decide) _
      have v573 : tile_run.sl.v573 d L x fr = Bk d L x 38 := load_eq d L x fr 38 (by decide) _
      have v587 : tile_run.sl.v587 d L x fr = Bk d L x 39 := load_eq d L x fr 39 (by decide) _
      have v601 : tile_run.sl.v601 d L x fr = Bk d L x 40 := load_eq d L x fr 40 (by decide) _
      have v615 : tile_run.sl.v615 d L x fr = Bk d L x 41 := load_eq d L x fr 41 (by decide) _
      have v629 : tile_run.sl.v629 d L x fr = Bk d L x 42 := load_eq d L x fr 42 (by decide) _
      have v643 : tile_run.sl.v643 d L x fr = Bk d L x 43 := load_eq d L x fr 43 (by decide) _
      have v657 : tile_run.sl.v657 d L x fr = Bk d L x 44 := load_eq d L x fr 44 (by decide) _
      have v671 : tile_run.sl.v671 d L x fr = Bk d L x 45 := load_eq d L x fr 45 (by decide) _
      have v685 : tile_run.sl.v685 d L x fr = Bk d L x 46 := load_eq d L x fr 46 (by decide) _
      have v699 : tile_run.sl.v699 d L x fr = Bk d L x 47 := load_eq d L x fr 47 (by decide) _
      have v713 : tile_run.sl.v713 d L x fr = Bk d L x 48 := load_eq d L x fr 48 (by decide) _
      have v727 : tile_run.sl.v727 d L x fr = Bk d L x 49 := load_eq d L x fr 49 (by decide) _
      have v741 : tile_run.sl.v741 d L x fr = Bk d L x 50 := load_eq d L x fr 50 (by decide) _
      have v755 : tile_run.sl.v755 d L x fr = Bk d L x 51 := load_eq d L x fr 51 (by decide) _
      have v769 : tile_run.sl.v769 d L x fr = Bk d L x 52 := load_eq d L x fr 52 (by decide) _
      have v783 : tile_run.sl.v783 d L x fr = Bk d L x 53 := load_eq d L x fr 53 (by decide) _
      have v797 : tile_run.sl.v797 d L x fr = Bk d L x 54 := load_eq d L x fr 54 (by decide) _
      have v811 : tile_run.sl.v811 d L x fr = Bk d L x 55 := load_eq d L x fr 55 (by decide) _
      have v825 : tile_run.sl.v825 d L x fr = Bk d L x 56 := load_eq d L x fr 56 (by decide) _
      have v839 : tile_run.sl.v839 d L x fr = Bk d L x 57 := load_eq d L x fr 57 (by decide) _
      have v853 : tile_run.sl.v853 d L x fr = Bk d L x 58 := load_eq d L x fr 58 (by decide) _
      have v867 : tile_run.sl.v867 d L x fr = Bk d L x 59 := load_eq d L x fr 59 (by decide) _
      have v881 : tile_run.sl.v881 d L x fr = Bk d L x 60 := load_eq d L x fr 60 (by decide) _
      have v895 : tile_run.sl.v895 d L x fr = Bk d L x 61 := load_eq d L x fr 61 (by decide) _
      have v909 : tile_run.sl.v909 d L x fr = Bk d L x 62 := load_eq d L x fr 62 (by decide) _
      have v923 : tile_run.sl.v923 d L x fr = Bk d L x 63 := load_eq d L x fr 63 (by decide) _
      delta tile_run.sl.Hp_64
        tile_run.sl.v48 tile_run.sl.v49 tile_run.sl.v62 tile_run.sl.v63 tile_run.sl.v73 tile_run.sl.v76 tile_run.sl.v77
        tile_run.sl.v90 tile_run.sl.v91 tile_run.sl.v104 tile_run.sl.v105 tile_run.sl.v118 tile_run.sl.v119
        tile_run.sl.v121 tile_run.sl.v132 tile_run.sl.v133 tile_run.sl.v146 tile_run.sl.v147 tile_run.sl.v160
        tile_run.sl.v161 tile_run.sl.v174 tile_run.sl.v175 tile_run.sl.v188 tile_run.sl.v189 tile_run.sl.v202
        tile_run.sl.v203 tile_run.sl.v216 tile_run.sl.v217 tile_run.sl.v230 tile_run.sl.v231 tile_run.sl.v244
        tile_run.sl.v245 tile_run.sl.v258 tile_run.sl.v259 tile_run.sl.v272 tile_run.sl.v273 tile_run.sl.v286
        tile_run.sl.v287 tile_run.sl.v297 tile_run.sl.v300 tile_run.sl.v301 tile_run.sl.v314 tile_run.sl.v315
        tile_run.sl.v328 tile_run.sl.v329 tile_run.sl.v339 tile_run.sl.v341 tile_run.sl.v342 tile_run.sl.v343
        tile_run.sl.v356 tile_run.sl.v357 tile_run.sl.v370 tile_run.sl.v371 tile_run.sl.v384 tile_run.sl.v385
        tile_run.sl.v386 tile_run.sl.v398 tile_run.sl.v399 tile_run.sl.v412 tile_run.sl.v413 tile_run.sl.v426
        tile_run.sl.v427 tile_run.sl.v429 tile_run.sl.v440 tile_run.sl.v441 tile_run.sl.v454 tile_run.sl.v455
        tile_run.sl.v468 tile_run.sl.v469 tile_run.sl.v473 tile_run.sl.v482 tile_run.sl.v483 tile_run.sl.v496
        tile_run.sl.v497 tile_run.sl.v510 tile_run.sl.v511 tile_run.sl.v524 tile_run.sl.v525 tile_run.sl.v538
        tile_run.sl.v539 tile_run.sl.v552 tile_run.sl.v553 tile_run.sl.v561 tile_run.sl.v562 tile_run.sl.v566
        tile_run.sl.v567 tile_run.sl.v580 tile_run.sl.v581 tile_run.sl.v594 tile_run.sl.v595 tile_run.sl.v605
        tile_run.sl.v608 tile_run.sl.v609 tile_run.sl.v622 tile_run.sl.v623 tile_run.sl.v636 tile_run.sl.v637
        tile_run.sl.v647 tile_run.sl.v650 tile_run.sl.v651 tile_run.sl.v664 tile_run.sl.v665 tile_run.sl.v678
        tile_run.sl.v679 tile_run.sl.v692 tile_run.sl.v693 tile_run.sl.v695 tile_run.sl.v706 tile_run.sl.v707
        tile_run.sl.v720 tile_run.sl.v721 tile_run.sl.v734 tile_run.sl.v735 tile_run.sl.v748 tile_run.sl.v749
        tile_run.sl.v762 tile_run.sl.v763 tile_run.sl.v776 tile_run.sl.v777 tile_run.sl.v790 tile_run.sl.v791
        tile_run.sl.v804 tile_run.sl.v805 tile_run.sl.v818 tile_run.sl.v819 tile_run.sl.v827 tile_run.sl.v832
        tile_run.sl.v833 tile_run.sl.v846 tile_run.sl.v847 tile_run.sl.v860 tile_run.sl.v861 tile_run.sl.v871
        tile_run.sl.v874 tile_run.sl.v875 tile_run.sl.v888 tile_run.sl.v889 tile_run.sl.v902 tile_run.sl.v903
        tile_run.sl.v913 tile_run.sl.v916
      simp only [step, Nat.reduceAdd,
      v41, v55, v69, v83, v97, v111, v125, v139, v153, v167, v181, v195, v209, v223, v237, v251, v265, v279, v293, v307, v321,
      v335, v349, v363, v377, v391, v405, v419, v433, v447, v461, v475, v489, v503, v517, v531, v545, v559, v573, v587, v601,
      v615, v629, v643, v657, v671, v685, v699, v713, v727, v741, v755, v769, v783, v797, v811, v825, v839, v853, v867, v881,
      v895, v909, v923, k0_pay1, k0_pay2, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49,
      k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73,
      k0_pay74, k0_pay75, k0_pay76, k0_pay77, k0_pay78, k0_pay79, k0_pay80, k0_pay81, k0_pay82, k0_pay83, k0_pay84, k0_pay85,
      k0_pay86, k0_pay87, k0_pay88, k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106, k0_pay107, k0_pay108,
      k0_pay109, k0_pay110, k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140]
      simp only [List.forall_mem_cons]
      exact ⟨      pc 63 1008 rfl _, pc 62 992 rfl _, pc 61 976 rfl _, pc 60 960 rfl _, pc 59 944 rfl _, pc 58 928 rfl _, pc 57 912 rfl _,
      pc 56 896 rfl _, pc 55 880 rfl _, pc 54 864 rfl _, pc 53 848 rfl _, pc 52 832 rfl _, pc 51 816 rfl _, pc 50 800 rfl _,
      pc 49 784 rfl _, pc 48 768 rfl _, pc 47 752 rfl _, pc 46 736 rfl _, pc 45 720 rfl _, pc 44 704 rfl _, pc 43 688 rfl _,
      pc 42 672 rfl _, pc 41 656 rfl _, pc 40 640 rfl _, pc 39 624 rfl _, pc 38 608 rfl _, pc 37 592 rfl _, pc 36 576 rfl _,
      pc 35 560 rfl _, pc 34 544 rfl _, pc 33 528 rfl _, pc 32 512 rfl _, pc 31 496 rfl _, pc 30 480 rfl _, pc 29 464 rfl _,
      pc 28 448 rfl _, pc 27 432 rfl _, pc 26 416 rfl _, pc 25 400 rfl _, pc 24 384 rfl _, pc 23 368 rfl _, pc 22 352 rfl _,
      pc 21 336 rfl _, pc 20 320 rfl _, pc 19 304 rfl _, pc 18 288 rfl _, pc 17 272 rfl _, pc 16 256 rfl _, pc 15 240 rfl _,
      pc 14 224 rfl _, pc 13 208 rfl _, pc 12 192 rfl _, pc 11 176 rfl _, pc 10 160 rfl _, pc 9 144 rfl _, pc 8 128 rfl _,
      pc 7 112 rfl _, pc 6 96 rfl _, pc 5 80 rfl _, pc 4 64 rfl _, pc 3 48 rfl _, pc 2 32 rfl _, pc 1 16 rfl _, pc 0 0 rfl _, fun _ h => absurd h List.not_mem_nil⟩
    · have hz : (z 0).val < 1024 := (z 0).isLt
      have hmem : ∀ k : Fin 64, ∃ p ∈ tile_run.sl.Hp_64 d L x fr, ∃ h, p.1 = Rect.unit (s := S1024) ![16 * k.val] S16.size h := by
        have hl : (tile_run.sl.Hp_64 d L x fr).length = 64 := rfl
        intro k
        refine ⟨(tile_run.sl.Hp_64 d L x fr)[63 - k.val]'(by rw [hl]; omega), List.getElem_mem _, fun a => ?_, ?_⟩
        · match a with
          | 0 => show 16 * k.val + 16 ≤ 1024; omega
        · fin_cases k <;> rfl
      obtain ⟨p, hp, h, e⟩ := hmem ⟨(z 0).val / 16, by omega⟩
      refine ⟨p, hp, ?_⟩
      rw [e, Rect.mem_set_unit]
      intro a
      match a with
      | 0 => show 16 * ((z 0).val / 16) ≤ (z 0).val ∧ (z 0).val < 16 * ((z 0).val / 16) + 16; omega
  isplitl [Hx]; · iexact Hx
  isplitl [Ho]
  · iapply (Entails.of_eq (pointsTo_congr (Val := Elt F) ho)); iexact Ho
  isplitl [Hr]; · iexists _; iexact Hr
  isplitl [Hp]; · iexists _; iexact Hp
  isplitl [HsA]; · iexact HsA
  isplitl [HsB]; · iexact HsB
  iexists _
  isplitl []
  swap
  · iexact HO
  ipureintro
  intro p hp
  rcases Finset.mem_insert.mp hp with rfl | hp
  · exact Or.inr (Or.inl rfl)
  rcases Finset.mem_insert.mp hp with rfl | hp
  · exact Or.inr (Or.inl rfl)
  exact Or.inl hp

end Cert.Proof
-- ==== Proof.Region.lean ====
/-
  The TensorCore kernel: its body run once at a symbolic grid point, its proof data, and the region it makes of @main.
-/
module

public import proofs.«01_k».proof.Proof.Setup
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.Pipeline.Value
public import Idealize.ShloMosaic.Lib.Pipeline.ValueKit
public import Idealize.ShloMosaic.Lib.Writes
public import Idealize.ShloMosaic.Lib.VecWindow
public import Idealize.ShloMosaic.Lib.PointwiseCore

@[expose] public section

noncomputable section

namespace Cert.Proof

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## The body -/

/-- The two halves that the body stores, as rectangles of its block. -/
abbrev rSin : Rect S1x512x1024 := Rect.unit (s := S1x512x1024) ![0, 0, 0] S1x512x512.size inb_S1x512x1024_S1x512x512_0_0_0
abbrev rCos : Rect S1x512x1024 := Rect.unit (s := S1x512x1024) ![0, 0, 512] S1x512x512.size inb_S1x512x1024_S1x512x512_0_0_512

/-- An index of the block, within its half. -/
def halfIx (z : S1x512x1024.Idx) : S1x512x512.Idx := fun
  | 0 => z 0
  | 1 => z 1
  | 2 => ⟨(z 2).val % 512, Nat.mod_lt _ (by decide)⟩
  | ⟨_ + 3, h⟩ => absurd h (Nat.not_lt.2 (Nat.le_add_left _ _))

/-- The block the body leaves, of a block `p` of positions and the frequencies `f`: sines in the left half of a row, cosines in the right. -/
def outBlk (p : Vec F S1x512x1 .f32) (f : Vec F S1x512 .f32) : Vec F S1x512x1024 .f32 :=
  fun z => if (z 2).val < 512 then k1_pay4 p f (halfIx z) else k1_pay5 p f (halfIx z)

theorem halfIx_sin (x : S1x512x512.Idx) : halfIx (rSin.emb x) = x := by
  have h2 : (x 2).val < 512 := (x 2).isLt
  funext a
  fin_cases a
  · exact Fin.ext (show 0 + 1 * (x 0).val = (x 0).val by omega)
  · exact Fin.ext (show 0 + 1 * (x 1).val = (x 1).val by omega)
  · exact Fin.ext (show (0 + 1 * (x 2).val) % 512 = (x 2).val by omega)

theorem halfIx_cos (x : S1x512x512.Idx) : halfIx (rCos.emb x) = x := by
  have h2 : (x 2).val < 512 := (x 2).isLt
  funext a
  fin_cases a
  · exact Fin.ext (show 0 + 1 * (x 0).val = (x 0).val by omega)
  · exact Fin.ext (show 0 + 1 * (x 1).val = (x 1).val by omega)
  · exact Fin.ext (show (512 + 1 * (x 2).val) % 512 = (x 2).val by omega)

theorem half_cover (z : S1x512x1024.Idx) : z ∈ rSin.set ∨ z ∈ rCos.set := by
  have h0 : (z 0).val < 1 := (z 0).isLt
  have h1 : (z 1).val < 512 := (z 1).isLt
  have h2 : (z 2).val < 1024 := (z 2).isLt
  by_cases h : (z 2).val < 512
  · left; rw [Rect.mem_set_unit]
    intro a; fin_cases a
    · exact ⟨Nat.zero_le _, show (z 0).val < 0 + 1 by omega⟩
    · exact ⟨Nat.zero_le _, show (z 1).val < 0 + 512 by omega⟩
    · exact ⟨Nat.zero_le _, show (z 2).val < 0 + 512 by omega⟩
  · right; rw [Rect.mem_set_unit]
    intro a; fin_cases a
    · exact ⟨Nat.zero_le _, show (z 0).val < 0 + 1 by omega⟩
    · exact ⟨Nat.zero_le _, show (z 1).val < 0 + 512 by omega⟩
    · exact ⟨show 512 ≤ (z 2).val by omega, show (z 2).val < 512 + 512 by omega⟩

set_option maxHeartbeats 1000000 in
theorem tc_run (c : Dev nD) (i : grid1.Coords) (M0 : Memref sig .tc .vmem S1x512x1 .f32) (h0 : M0.IsWhole)
    (M1 : Memref sig .tc .vmem S1x512 .f32) (h1 : M1.IsWhole) (M2 : Memref sig .tc .vmem S1x512x1024 .f32) (h2 : M2.IsWhole)
    (f0 : Buf (Elt F) (M0.view.loc (c : Thread nD τ))) (f1 : Buf (Elt F) (M1.view.loc (c : Thread nD τ)))
    (f2 : Buf (Elt F) (M2.view.loc (c : Thread nD τ))) :
    (iprop((M0.view.loc (c : Thread nD τ) ↦[M0.view.set]{fullShare} f0) ∗ (M1.view.loc (c : Thread nD τ) ↦[M1.view.set]{fullShare} f1)
        ∗ (M2.view.loc (c : Thread nD τ) ↦[M2.view.set]{fullShare} f2)) : sProp 𝕄)
      ⊢ wp frame (wpE (defs₀ (F := F)) 𝒱₀ c none) Set.univ (cc1__tc_body i M0 h0 M1 h1 M2 h2) fun _ =>
        iprop((M0.view.loc (c : Thread nD τ) ↦[M0.view.set]{fullShare} f0) ∗ (M1.view.loc (c : Thread nD τ) ↦[M1.view.set]{fullShare} f1)
          ∗ owns (c : Thread nD τ) M2 fullShare (outBlk (M0.view.read (Elt F) f0) (M1.view.read (Elt F) f1))) := by
  rw [cc1__tc_body_eq_skeleton]
  iintro ⟨H0, H1, H2⟩
  sl_exec
  sl_step
  isplitl [H0]; · iexact H0
  isplitl [H1]; · iexact H1
  unfold owns
  iexists _
  isplitr; swap; (· iexact H2)
  ipureintro
  rw [show View.readAt (Elt F) M0.view (Rect.unit (s := S1x512x1) ![0, 0, 0] S1x512x1.size inb_S1x512x1_S1x512x1_0_0_0).toLoadRect f0
      = M0.view.read (Elt F) f0 from by
    funext y
    exact congrArg (M0.view.read (Elt F) f0) (funext fun a => Fin.ext (by
      show (![0, 0, 0] : Fin 3 → ℕ) a + 1 * (y a).val = (y a).val
      fin_cases a <;> simp)),
    show View.readAt (Elt F) M1.view (Rect.unit (s := S1x512) ![0, 0] S1x512.size inb_S1x512_S1x512_0_0).toLoadRect f1
      = M1.view.read (Elt F) f1 from by
    funext y
    exact congrArg (M1.view.read (Elt F) f1) (funext fun a => Fin.ext (by
      show (![0, 0] : Fin 2 → ℕ) a + 1 * (y a).val = (y a).val
      fin_cases a <;> simp))]
  funext z
  refine View.read_writes_apply_of_pieces M2.view f2 (outBlk (M0.view.read (Elt F) f0) (M1.view.read (Elt F) f1)) _ ?_ z ?_
  · intro q hq x
    simp only [List.mem_cons, List.not_mem_nil, or_false] at hq
    rcases hq with rfl | rfl
    · have hx : ¬ ((rCos.emb x) 2).val < 512 := by
        show ¬ 512 + 1 * (x 2).val < 512; omega
      unfold outBlk
      rw [if_neg hx, halfIx_cos]
    · have hx : ((rSin.emb x) 2).val < 512 := by
        have h2 : (x 2).val < 512 := (x 2).isLt
        show 0 + 1 * (x 2).val < 512; omega
      unfold outBlk
      rw [if_pos hx, halfIx_sin]
  · rcases half_cover z with h | h
    · exact ⟨_, List.mem_cons_of_mem _ List.mem_cons_self, h⟩
    · exact ⟨_, List.mem_cons_self, h⟩

/-! ## The block, entry by entry -/

/-- One where the position is positive, else zero. -/
def maskE (p : F .f32) : F .f32 :=
  FloatOps.sitofp .f32 (BitVec.setWidth 32 (FloatOps.cmpf .ogt p (FloatOps.ofBits .f32 0#32)))

/-- An entry of the table: the masked sine or cosine of position times frequency. -/
def sinE (p f : F .f32) : F .f32 := FloatOps.mulf (FloatOps.sin (FloatOps.mulf p f)) (maskE p)
def cosE (p f : F .f32) : F .f32 := FloatOps.mulf (FloatOps.cos (FloatOps.mulf p f)) (maskE p)

/-- A column of the table, within its half. -/
def hcol (k : ℕ) : Fin 512 := ⟨k % 512, Nat.mod_lt _ (by decide)⟩

theorem outBlk_apply (p : Vec F S1x512x1 .f32) (f : Vec F S1x512 .f32) (z : S1x512x1024.Idx) :
    outBlk p f z = if (z 2).val < 512 then sinE (p (ix3 0 (z 1) 0)) (f (ix2 0 (hcol (z 2).val)))
      else cosE (p (ix3 0 (z 1) 0)) (f (ix2 0 (hcol (z 2).val))) := by
  unfold outBlk
  split
  · generalize hy : halfIx z = y
    have e1 : y 1 = z 1 := by rw [← hy]; rfl
    have e2 : y 2 = hcol (z 2).val := by rw [← hy]; rfl
    pointwise [k1_pay4, k1_pay3, k1_pay2, k1_pay1]
    rw [e1, e2]; rfl
  · generalize hy : halfIx z = y
    have e1 : y 1 = z 1 := by rw [← hy]; rfl
    have e2 : y 2 = hcol (z 2).val := by rw [← hy]; rfl
    pointwise [k1_pay5, k1_pay3, k1_pay2, k1_pay1]
    rw [e1, e2]; rfl

/-- The whole result, of all positions and the frequencies. -/
def outArr (P : Vec F S4x8192x1 .f32) (f : Vec F S1x512 .f32) : Vec F S4x8192x1024 .f32 :=
  fun z => if (z 2).val < 512 then sinE (P (ix3 (z 0) (z 1) 0)) (f (ix2 0 (hcol (z 2).val)))
    else cosE (P (ix3 (z 0) (z 1) 0)) (f (ix2 0 (hcol (z 2).val)))

/-! ## The proof data, from any contents of the unscoped buffers -/

section Data

variable (W : (c : Dev nD) → (b : Ref sig .tc) → Buf (Elt F) ((c : Thread nD τ).loc b))

/-- The block of positions and the frequencies, as a point's fetches stage them. -/
abbrev inP (c : Dev nD) (t : Fin cfg1.N) : Vec F S1x512x1 .f32 := ((cfg1.win 0).blk t).view.read (Elt F) (W c main_v4)
abbrev inF (c : Dev nD) (t : Fin cfg1.N) : Vec F S1x512 .f32 := ((cfg1.win 1).blk t).view.read (Elt F) (W c main_v9)

/-- The recorded waits stay at or below the level of the SparseCore call already run. -/
abbrev recd (c : Dev nD) : Set (SemLoc sig × HIx 1) := {p | (K (F := F)).lev (T c, p.1) p.2 ≤ 8}

def dat (c : Dev nD) : Dat τ (Elt F) (HIx 1) ℕ UU ℕ cfg1 c where
  A w := W c (Pipeline.arrRef spec1 w)
  after w t := match w with
    | ⟨0, _⟩ => inP W c t
    | ⟨1, _⟩ => inF W c t
    | ⟨2, _⟩ => outBlk (inP W c t) (inF W c t)
  Φ _ := BI.emp
  q _ := fullShare
  owed _ := 0
  recorded _ := recd (F := F) c

abbrev adm (p : Fin 1) : (pcfgs (F := F) p).Adm := (cfgs p).toPCfg_adm

def pdats : (p : Fin 1) → (c : Dev nD) → Dat τ (Elt F) (HIx 1) ℕ UU ℕ (Pipeline.pin (pcfgs (F := F)) adm p) c
  | ⟨0, _⟩ => fun c => dat W c

theorem before0 (c : Dev nD) (t : Fin cfg1.N) (e) : (dat W c).before 0 t e = inP W c t :=
  (dat W c).before_in_eq_fetched 0 rfl (fun _ => rfl) (fun _ _ _ => rfl) (fun _ => rfl) t e
theorem before1 (c : Dev nD) (t : Fin cfg1.N) (e) : (dat W c).before 1 t e = inF W c t :=
  (dat W c).before_in_eq_fetched 1 rfl (fun _ => rfl) (fun _ _ _ => rfl) (fun _ => rfl) t e

theorem body_obligation (c : Dev nD) : BodyObligation (dat W c) (defs₀ (F := F)) 𝒱₀ (default : HIx 1) Set.univ := fun t => by
  rw [bigSep_W1, bigSep_W1]
  rw [show (dat W c).Φ t.castSucc = BI.emp from rfl, show (dat W c).Φ t.succ = BI.emp from rfl,
    show (dat W c).owesAt (default : HIx 1) t.succ = (dat W c).owesAt (default : HIx 1) t.castSucc from rfl]
  iintro ⟨HΦ, Howes, ⟨%d0, H0⟩, ⟨%d1, H1⟩, ⟨%d2, H2⟩⟩
  rw [before0, before1]
  unfold owns
  icases H0 with ⟨%f0, %e0, H0⟩
  icases H1 with ⟨%f1, %e1, H1⟩
  icases H2 with ⟨%f2, -, H2⟩
  ihave Hwp := (tc_run c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2))
    (hstage1_2 ((cfg1.slots t 2).cast nbuf1_2)) f0 f1 f2) $$ [H0 H1 H2]
  · isplitl [H0]; · iexact H0
    isplitl [H1]; · iexact H1
    iexact H2
  iapply wp_wand $$ [Hwp]
  · iexact Hwp
  iintro %_ ⟨H0, H1, H2⟩
  isplitl [HΦ]; · iexact HΦ
  isplitl [Howes]; · iexact Howes
  isplitl [H0]
  · iexists f0; isplitr; swap; (· iexact H0); ipureintro; exact e0
  isplitl [H1]
  · iexists f1; isplitr; swap; (· iexact H1); ipureintro; exact e1
  unfold owns
  icases H2 with ⟨%g, %eg, H2⟩
  iexists g; isplitr; swap; (· iexact H2); ipureintro
  exact eg.trans (congrArg₂ outBlk e0 e1)

/-- What the region leaves of the result: the whole of it. -/
theorem out_final (c : Dev nD) : (dat W c).arrAt 2 cfg1.N = outArr (W c main_v4) (W c main_v9) := by
  refine (dat W c).arrAt_eq_of_covers 2 _ (by decide +kernel) fun t hf y => ?_
  blk_simp
  have hy0 : (y 0).val < 1 := (y 0).isLt
  change outBlk (inP W c t) (inF W c t) y = outArr (W c main_v4) (W c main_v9) ((win1_2.rect t).emb y)
  have c0 := win1_2.rect_emb_val t y 0
  have c1 := win1_2.rect_emb_val t y 1
  have c2 := win1_2.rect_emb_val t y 2
  have i2 : win1_2.index t 2 = 0 := rfl
  rw [outBlk_apply]
  unfold outArr
  have e2 : ((win1_2.rect t).emb y 2).val = (y 2).val := by rw [c2, i2]; omega
  have hP : inP W c t (ix3 0 (y 1) 0) = W c main_v4 (ix3 ((win1_2.rect t).emb y 0) ((win1_2.rect t).emb y 1) 0) := by
    change W c main_v4 ((win1_0.rect t).emb (ix3 0 (y 1) 0)) = _
    congr 1
    funext a
    have ca := win1_0.rect_emb_val t (ix3 0 (y 1) 0) a
    refine Fin.ext (ca.trans ?_)
    fin_cases a
    · refine Eq.trans ?_ c0.symm
      show win1_2.index t 0 * 1 + 0 = win1_2.index t 0 * 1 + (y 0).val
      omega
    · exact c1.symm
    · show 0 * 1 + 0 = 0
      rfl
  have hF : ∀ k : Fin 512, inF W c t (ix2 0 k) = W c main_v9 (ix2 0 k) := by
    intro k
    change W c main_v9 ((win1_1.rect t).emb (ix2 0 k)) = _
    congr 1
    funext a
    have ca := win1_1.rect_emb_val t (ix2 0 k) a
    refine Fin.ext (ca.trans ?_)
    fin_cases a
    · show 0 * 1 + 0 = 0
      rfl
    · show 0 * 512 + k.val = k.val
      omega
  rw [e2, hP, hF]

/-! ## The region -/

/-- The unscoped buffers as the region leaves them: the result is the table, the rest as before. -/
def Wend (c : Dev nD) : (b : Ref sig .tc) → Buf (Elt F) ((c : Thread nD τ).loc b) :=
  Function.update (W c) main_v10 (outArr (W c main_v4) (W c main_v9))

theorem Wend_ne (c : Dev nD) {b : Ref sig .tc} (h : b ≠ main_v10) : Wend W c b = W c b :=
  Function.update_of_ne h _ _

theorem Wend_out (c : Dev nD) : Wend W c main_v10 = outArr (W c main_v4) (W c main_v9) :=
  Function.update_self (f := W c) main_v10 _

/-- The core owes nothing, and its recorded waits are low. -/
abbrev owesLow (c : Dev nD) : sProp 𝕄 :=
  iprop(∃ B, ⌜(K (F := F)).WBelow (T c) B 8⌝ ∗ owes (T c) (0 : CellTallies nD τ sig (HIx 1)) B)

set_option backward.isDefEq.respectTransparency.types false in
def reg : Pipeline.RegionSeg (pcfgs (F := F)) adm (pdats W) (default : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation W c).loose
  hwaits := Pipeline.hwaits_of_owed_zero _ _ _ _ (K (F := F)).L (K (F := F)).lev 0 fun _ _ => rfl
  pre c := iprop(unscopedBufs c (W c) ∗ owesLow (F := F) c)
  post c := iprop(unscopedBufs c (Wend W c) ∗ owesLow (F := F) c)
  X _ := BI.emp
  Y _ := BI.emp
  Z c := Pipeline.unscopedRest (Ix := HIx 1) (Name := ℕ) (U := UU) (Lvl := ℕ) spec1 c (W c)
  hentry c := by
    rw [Pipeline.ownSems0_none]
    have hsplit := Pipeline.arrays_of_unscopedBufs (p := 0) (pcfgs (F := F)) adm (pdats W) (launch1).win (launch1).arr_whole c
      ((pdats W 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%B, %hB, HO⟩; iexists B; isplitr
      · ipureintro; exact fun p hp => Or.inl (hB p hp)
      iexact HO
    isplitr; · iempintro
    iexact Hrest
  hin c := by
    rw [show (pdats W 0 c).Φ 0 = BI.emp from rfl]
    iintro -; iempintro
  hout c := by
    rw [Pipeline.ownSems0_none, show (pdats W 0 c).Φ (Fin.last _) = BI.emp from rfl,
      show (Pipeline.scopedRest (pcfgs (F := F) 0).spec c : sProp 𝕄) = BI.emp from scopedRest1_eq c]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ)
      (launch1).win (launch1).arr_whole c
      (pdats W) ((pdats W 0 c).share_full fun _ => rfl) (W c) (Wend W c) ((pdats W 0 c).arrAt · cfg1.N)
      (fun w => by
        fin_cases w
        · exact ((pdats W 0 c).arrAt_in 0 rfl _).trans (Wend_ne W c (b := main_v4) (by decide)).symm
        · exact ((pdats W 0 c).arrAt_in 1 rfl _).trans (Wend_ne W c (b := main_v9) (by decide)).symm
        · exact (out_final W c).trans (Wend_out W c).symm)
      (fun b hb => Wend_ne W c (fun h => hb (Finset.mem_image.mpr ⟨2, Finset.mem_univ _, h.symm⟩)))
    iintro ⟨Ha, HO, -, Hrest⟩
    imodintro
    isplitl [Ha Hrest]
    · iapply hjoin; isplitl [Ha] <;> iassumption
    unfold Pipeline.Dat.owesAt Pipeline.owesWithin
    icases HO with ⟨%B, %hB, HO⟩; iexists B
    isplitr; swap; (· iexact HO)
    ipureintro
    intro p hp
    rcases hB hp with h | ⟨w, s, rfl⟩
    · exact h
    · exact Nat.zero_le _

end Data

end Cert.Proof
end
-- ==== Proof.Launch.lean ====
/-
  The program's run: the SparseCore call's tasks and what the TensorCore hands them and gets back, the TensorCore's program
  with its two stretches of host operations around the SparseCore call and its pipelined region, and the whole launch,
  with the contents of the result at the end.
-/
module

public import proofs.«01_k».proof.Proof.Tile
public import proofs.«01_k».proof.Proof.Region

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ
local notation "xV" => (Memref.whole Cert.KernelIdeal.main_v2_scv : Memref Cert.KernelIdeal.sig Kind.scVector Space.hbm Cert.KernelIdeal.S32768 EltTy.i32)
local notation "oV" => (Memref.whole Cert.KernelIdeal.main_v3_scv : Memref Cert.KernelIdeal.sig Kind.scVector Space.hbm Cert.KernelIdeal.S32768 EltTy.f32)
local notation "rV" => (Memref.whole Cert.KernelIdeal.cc0_scratch0 : Memref Cert.KernelIdeal.sig Kind.scVector Space.vmem Cert.KernelIdeal.S8192 EltTy.i32)
local notation "pV" => (Memref.whole Cert.KernelIdeal.cc0_scratch1 : Memref Cert.KernelIdeal.sig Kind.scVector Space.vmem Cert.KernelIdeal.S1024 EltTy.f32)

/-! ## The host operations -/

/-- The stretch before the SparseCore call: the mask's words, flat. -/
def ops1 : List (HloOp τ sig (Elt F)) :=
  [StableHlo.unary main_arg0 main_v0 (noti : (⟨S4x8192, .i1⟩ : BufTy).Contents (Elt F) → (⟨S4x8192, .i1⟩ : BufTy).Contents (Elt F)),
   StableHlo.unary main_v0 main_v1 ((extui 32 · natLt_1_32) : (⟨S4x8192, .i1⟩ : BufTy).Contents (Elt F) → (⟨S4x8192, .i32⟩ : BufTy).Contents (Elt F)),
   StableHlo.reshape main_v1 main_v2 (rfl : (.i32 : EltTy) = .i32) shapeCasts_S4x8192_S32768]

/-- The stretch after it: the positions as a column, the frequencies as a row. -/
def ops2 : List (HloOp τ sig (Elt F)) :=
  [StableHlo.reshape main_v3 main_v4 (rfl : (.f32 : EltTy) = .f32) shapeCasts_S32768_S4x8192x1,
   StableHlo.nullary main_v5 (sitofp .f32 (iotaInDim S512 32 0)),
   StableHlo.nullary main_cst (constant S_ .f32 0xBC93A762#32),
   StableHlo.unary main_cst main_v6 (broadcastInDim S512 ![] bcast_S_S512 : (⟨S_, .f32⟩ : BufTy).Contents (Elt F) → (⟨S512, .f32⟩ : BufTy).Contents (Elt F)),
   StableHlo.binary main_v5 main_v6 main_v7 (mulf : (⟨S512, .f32⟩ : BufTy).Contents (Elt F) → (⟨S512, .f32⟩ : BufTy).Contents (Elt F) → (⟨S512, .f32⟩ : BufTy).Contents (Elt F)),
   StableHlo.unary main_v7 main_v8 (Host.exp : (⟨S512, .f32⟩ : BufTy).Contents (Elt F) → (⟨S512, .f32⟩ : BufTy).Contents (Elt F)),
   StableHlo.reshape main_v8 main_v9 (rfl : (.f32 : EltTy) = .f32) shapeCasts_S512_S1x512]

theorem main_eq (d : Dev nD) : main (F := F) d
    = StableHlo.seq ops1 >>= fun _ => sc.run d 0 >>= fun _ => StableHlo.seq ops2 >>= fun _ =>
        Prog.lift (.customCall (SparseCore.inner (Pipeline.entry 0)) ()) >>= fun _ => pure ⟨⟩ := rfl

section Run

variable (m : (ℓ : Loc nD τ sig) → Buf (Elt F) ℓ) (ρ : Dev nD → PrngReg)

/-- The arrays' contents at the launch, before the SparseCore call, after it, and before the region. -/
def V0 (d : Dev nD) : Valuation τ sig (Elt F) := fun b => m (d, b)
def V1 (d : Dev nD) : Valuation τ sig (Elt F) := StableHlo.after ops1 (V0 m d)
/-- The mask's words. -/
abbrev xv (d : Dev nD) : IVec S32768 32 := V1 m d (Proc.devRef .tc main_v2)
def V2 (d : Dev nD) : Valuation τ sig (Elt F) :=
  Function.update (V1 m d) (Proc.devRef .tc main_v3) (posV (F := F) (xv m d))
def V3 (d : Dev nD) : Valuation τ sig (Elt F) := StableHlo.after ops2 (V2 m d)

/-! ## What the tasks are handed and hand back -/

/-- Task `k`'s share of the mask words, read whole, -/
abbrev xTok (d : Dev nD) (k : Fin 32) : sProp 𝕄 :=
  (xLoc d ↦{shareTok fullShare 32 k} (V1 m d (Proc.devRef .tc main_v2) : Buf (Elt F) (xLoc d)))
/-- and its part of the result, at contents `f`. -/
abbrev oPart (d : Dev nD) (k : Fin 32) (f : Buf (Elt F) (oLoc d)) : sProp 𝕄 := (oLoc d ↦[partSet k]{fullShare} f)

abbrev goK (d : Dev nD) (k : Fin 32) : sProp 𝕄 := iprop(xTok m d k ∗ oPart d k (V1 m d (Proc.devRef .tc main_v3)))
abbrev tdK (d : Dev nD) (k : Fin 32) : sProp 𝕄 := iprop(xTok m d k ∗ oPart d k (V2 m d (Proc.devRef .tc main_v3)))

theorem nCore_zero : (K (F := F)).nCore 0 = 2 := rfl
theorem nSub_zero : (K (F := F)).nSub 0 = 16 := rfl

/-- The number of the task on the grid's SparseCore `c`, vector subcore `i`. -/
abbrev widK (c : Fin ((K (F := F)).nCore 0)) (i : Fin ((K (F := F)).nSub 0)) : Fin 32 :=
  wid (Fin.cast nCore_zero c) (Fin.cast nSub_zero i)

def P : (K (F := F)).Pay (nD := nD) (Val := Elt F) (Name := ℕ) (U := UU) where
  st := fun q d c => match q with | 0 => bigSep Finset.univ fun i : Fin ((K (F := F)).nSub 0) => goK m d (widK (F := F) c i)
  dn := fun q d c => match q with | 0 => bigSep Finset.univ fun i : Fin ((K (F := F)).nSub 0) => tdK m d (widK (F := F) c i)
  go := fun q d c i => match q with | 0 => goK m d (widK (F := F) c i)
  td := fun q d c i => match q with | 0 => tdK m d (widK (F := F) c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goK m d (widK (F := F) c i)))
  dn q d c := match q with
    | 0 => (inferInstance : BI.Storable (upEmb : UEmb _ 𝕄) (bigSep Finset.univ fun i : Fin ((K (F := F)).nSub 0) => tdK m d (widK (F := F) c i)))
  go q d c i := match q with | 0 => (inferInstance : BI.Storable (upEmb : UEmb _ 𝕄) (goK m d (widK (F := F) c i)))
  td q d c i := match q with | 0 => (inferInstance : BI.Storable (upEmb : UEmb _ 𝕄) (tdK m d (widK (F := F) c i)))

/-! ## The task -/

section Task

variable (d : Dev nD) (L : grid0.Coords)

abbrev c0 : GSem nD τ sig := (thr d L, SemLoc.dma cc0_scoped0.sem)
abbrev c2 : GSem nD τ sig := (thr d L, SemLoc.dma cc0_scratch2.sem)

/-- The task's own counters are the two it waits on, with the rest. -/
theorem ownSems_task : (ownSems0 (thr d L) : sProp 𝕄)
    = iprop(semVal (c0 d L) 0 ∗ semVal (c2 d L) 0 ∗ bigSep (((ownCells (thr d L)).erase (c0 d L)).erase (c2 d L)) fun g => semVal g 0) := by
  unfold SparseCore.Cfg.ownSems0
  rw [SparseCore.bigSep_erase' ((mem_ownCells (g := c0 d L)).mpr ⟨rfl, by
      show (SemLoc.dma cc0_scoped0.sem : SemLoc sig).isScoped .scVector = true; decide⟩),
    SparseCore.bigSep_erase' (Finset.mem_erase.mpr ⟨by simp [c0, c2]; decide, (mem_ownCells (g := c2 d L)).mpr ⟨rfl, by
      show (SemLoc.dma cc0_scratch2.sem : SemLoc sig).isScoped .scVector = true; decide⟩⟩)]

/-- Its own buffers are the row scratch and the positions' scratch, with the rest. -/
theorem ownBufs_task : (ownBufs (thr d L) : sProp 𝕄)
    = iprop((∃ f, (thr d L).loc cc0_scratch0 ↦{fullShare} f) ∗ (∃ f, (thr d L).loc cc0_scratch1 ↦{fullShare} f)
        ∗ bigSep (((ownRefs (τ := τ) (.scVector (cV L) (jV L))).erase ((Proc.scVector (cV L) (jV L)).devRef cc0_scratch0)).erase
            ((Proc.scVector (cV L) (jV L)).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The task's number. -/
abbrev kL : Fin 32 := wid ⟨(L 0).val, (L 0).isLt⟩ ⟨(L 1).val, (L 1).isLt⟩

/-- The part of the result the body addresses is the task's. -/
theorem oRect_eq : oRect L = part (kL L) := by
  unfold oRect part Rect.part Rect.block
  congr 1 <;> funext a
  · rw [off5_eq]
    match a with
    | 0 => simp [Shape.partIx, Shape.partSize, wid, Nat.mul_comm]
  · match a with
    | 0 => simp [Shape.partSize]

theorem oSl_set : (oSl L).view.set = partSet (kL L) := by
  show ((View.whole (main_v3_scv : Ref sig .scVector)).slice (oRect L)).set = _
  rw [View.set_slice, oRect_eq]; exact Finset.map_refl

theorem tile_body (hF : (K (F := F)).Facts) (O : CellTallies nD τ sig (HIx 1)) (W : Waits sig (HIx 1)) (hO : ∀ g, O g none = 0) :
    iprop(levAts (K (F := F)).L (K (F := F)).lev ∗ emp ∗ goK m d (kL L)
        ∗ scopedBufs (thr d L) ∗ scopedSems0 (thr d L) ∗ owes (thr d L) O W)
      ⊢ wp frame (wpE (defs₀ (F := F)) 𝒱₀ (thr d L) none) Set.univ
          (cc0__sc_pos_body L xV (Memref.isWhole_whole _) oV (Memref.isWhole_whole _) rV (Memref.isWhole_whole _) pV (Memref.isWhole_whole _)
            cc0_scratch2 cc0_scoped0)
          fun _ => iprop(tdK m d (kL L) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems_task, ownBufs_task]
  iintro ⟨#Hlv, -, ⟨Hx, Ho⟩, ⟨⟨%fr, Hr⟩, ⟨%fp, Hp⟩, Hbufs⟩, ⟨Hs0, Hs2, Hsems⟩, HO⟩
  ihave Hmw := (show levAts (K (F := F)).L (K (F := F)).lev ⊢ Transfers.MayWaits (thr d L) (default : HIx 1) O from
    (K (F := F)).mayWaits_none (thr := thr d L) hO) $$ Hlv
  ihave Hwp := (tile_run (F := F) d L (shareTok fullShare 32 (kL L)) (xv m d) (V1 m d (Proc.devRef .tc main_v3)) fr fp O W) $$ [Hmw Hx Ho Hr Hp Hs0 Hs2 HO]
  · isplitl [Hmw]; · iexact Hmw
    isplitl [Hx]; · rw [show (xV).view.set = Finset.univ from View.set_whole _]; iexact Hx
    isplitl [Ho]; · rw [oSl_set]; iexact Ho
    isplitl [Hr]; · iexact Hr
    isplitl [Hp]; · iexact Hp
    isplitl [Hs0]; · iexact Hs0
    isplitl [Hs2]; · iexact Hs2
    iexact HO
  iapply wp_wand $$ [Hwp]
  · iexact Hwp
  iintro %_ ⟨Hx, Ho, Hr, Hp, Hs0, Hs2, HO⟩
  isplitl [Hx Ho]
  · isplitl [Hx]; · rw [show (xV).view.set = Finset.univ from View.set_whole _]; iexact Hx
    rw [oSl_set, show V2 m d (Proc.devRef .tc main_v3) = posV (F := F) (xv m d) from Function.update_self ..]
    iexact Ho
  isplitl [Hr Hp Hbufs]
  · isplitl [Hr]; · iexact Hr
    isplitl [Hp]; · iexact Hp
    iexact Hbufs
  isplitl [Hs0 Hs2 Hsems]
  · isplitl [Hs0]; · iexact Hs0
    isplitl [Hs2]; · iexact Hs2
    iexact Hsems
  iexact HO

end Task

def coordsOf (c : Fin (grid0.bound 0)) (s : Fin (grid0.bound 1)) : grid0.Coords :=
  fun | 0 => c | 1 => s | ⟨_ + 2, h⟩ => absurd h (Nat.not_lt.2 (Nat.le_add_left _ _))

theorem defs₀_task (c : Fin τ.nSC) (s : Fin τ.nSub) :
    defs₀ (F := F) (.scVector c s) 0 ()
      = SparseCore.onTile hcore0 hsub0 (fun c s => cc0__sc_pos_body (coordsOf c s) xV (Memref.isWhole_whole _) oV (Memref.isWhole_whole _)
          rV (Memref.isWhole_whole _) pV (Memref.isWhole_whole _) cc0_scratch2 cc0_scoped0) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_task]; simp only [SparseCore.onTile, hci, and_self, ↓reduceDIte]
  exact tile_body m d (coordsOf ⟨_, hci.1⟩ ⟨_, hci.2⟩) hF O W hO

theorem vecSplit : (K (F := F)).VecSplit' (P m) 0 := by
  intro d c
  show (bigSep Finset.univ fun i : Fin ((K (F := F)).nSub 0) => goK m d (widK (F := F) c i)) ⊢ |={Set.univ}=> iprop(
      (bigSep Finset.univ fun i : Fin ((K (F := F)).nSub 0) => goK m d (widK (F := F) c i))
      ∗ ((bigSep Finset.univ fun i : Fin ((K (F := F)).nSub 0) => tdK m d (widK (F := F) c i))
          -∗ bigSep Finset.univ fun i : Fin ((K (F := F)).nSub 0) => tdK m d (widK (F := F) c i)))
  iintro H; imodintro
  isplitl [H]; · iexact H
  iintro H; iexact H

/-! ## The call's operands dealt over the tasks, and collected -/

/-- The two grid axes number the 32 tasks. -/
def widE : Fin 2 × Fin 16 ≃ Fin 32 where
  toFun p := wid p.1 p.2
  invFun k := (⟨k.val % 2, by omega⟩, ⟨k.val / 2, by omega⟩)
  left_inv := by decide
  right_inv := by decide

theorem deal_tasks (Φ : Fin 32 → sProp 𝕄) :
    (bigSep Finset.univ fun k : Fin 32 => Φ k)
      = bigSep Finset.univ fun c : Fin ((K (F := F)).nCore 0) => bigSep Finset.univ fun i : Fin ((K (F := F)).nSub 0) => Φ (widK (F := F) c i) := by
  rw [bigSep_univ_equiv widE, bigSep_univ_prod]; rfl

theorem oParts (d : Dev nD) (f : Buf (Elt F) (oLoc d)) :
    (oLoc d ↦{fullShare} f : sProp 𝕄) = bigSep Finset.univ fun k : Fin 32 => oPart d k f := by
  rw [← pointsTo_biUnion Finset.univ (ℓ := oLoc d) partSet (fun i _ j _ h => Rect.part_disjoint hdiv h),
    show (Finset.univ : Finset (Fin 32)).biUnion partSet = Finset.univ from Rect.biUnion_part hdiv]; try rfl

/-- The arrays but the call's operand and result. -/
abbrev rest : Finset (DevRef τ sig) :=
  ((Pipeline.ucRefs τ sig).erase (Proc.devRef .tc main_v2)).erase (Proc.devRef .tc main_v3)

theorem held_call (d : Dev nD) (V : Valuation τ sig (Elt F)) :
    (StableHlo.held (d.tc : Thread nD τ) (Pipeline.ucRefs τ sig) V : sProp 𝕄)
      = iprop((xLoc d ↦{fullShare} (V (Proc.devRef .tc main_v2) : Buf (Elt F) (xLoc d))) ∗ (oLoc d ↦{fullShare} (V (Proc.devRef .tc main_v3) : Buf (Elt F) (oLoc d)))
          ∗ StableHlo.held (d.tc : Thread nD τ) rest V) := by
  unfold StableHlo.held
  rw [SparseCore.bigSep_erase' (show (Proc.devRef .tc main_v2 : DevRef τ sig) ∈ Pipeline.ucRefs τ sig by decide),
    SparseCore.bigSep_erase' (show (Proc.devRef .tc main_v3 : DevRef τ sig) ∈ (Pipeline.ucRefs τ sig).erase (Proc.devRef .tc main_v2) by decide)]

theorem V2_ne (d : Dev nD) {b : DevRef τ sig} (h : b ≠ Proc.devRef .tc main_v3) : V2 m d b = V1 m d b := Function.update_of_ne h _ _

theorem st_intro (d : Dev nD) :
    (StableHlo.held (d.tc : Thread nD τ) (Pipeline.ucRefs τ sig) (V1 m d) : sProp 𝕄)
      ⊢ iprop((bigSep Finset.univ fun c : Fin ((K (F := F)).nCore 0) => (P m).st 0 d c)
        ∗ (xLoc d ↦{shareDrop fullShare 32} (V1 m d (Proc.devRef .tc main_v2) : Buf (Elt F) (xLoc d)))
        ∗ StableHlo.held (d.tc : Thread nD τ) rest (V1 m d)) := by
  rw [held_call, oParts, show (bigSep Finset.univ fun c : Fin ((K (F := F)).nCore 0) => (P m).st 0 d c)
    = bigSep Finset.univ fun k : Fin 32 => goK m d k from (deal_tasks (F := F) fun k => goK m d k).symm, bigSep_sep']
  iintro ⟨Hx, Ho, Hr⟩
  ihave Hx' := (Transfers.pointsTo_toks_split fullShare 32) $$ Hx
  icases Hx' with ⟨Hd, Ht⟩
  isplitl [Ht Ho]
  · isplitl [Ht] <;> iassumption
  isplitl [Hd] <;> iassumption

theorem dn_elim (d : Dev nD) :
    iprop((bigSep Finset.univ fun c : Fin ((K (F := F)).nCore 0) => (P m).dn 0 d c)
        ∗ (xLoc d ↦{shareDrop fullShare 32} (V1 m d (Proc.devRef .tc main_v2) : Buf (Elt F) (xLoc d)))
        ∗ StableHlo.held (d.tc : Thread nD τ) rest (V1 m d))
      ⊢ (StableHlo.held (d.tc : Thread nD τ) (Pipeline.ucRefs τ sig) (V2 m d) : sProp 𝕄) := by
  rw [held_call, oParts, show (bigSep Finset.univ fun c : Fin ((K (F := F)).nCore 0) => (P m).dn 0 d c)
    = bigSep Finset.univ fun k : Fin 32 => tdK m d k from (deal_tasks (F := F) fun k => tdK m d k).symm, bigSep_sep',
    V2_ne m d (b := Proc.devRef .tc main_v2) (by decide),
    StableHlo.held_congr (d.tc : Thread nD τ) (S := rest) (V := V2 m d) (V' := V1 m d) fun b hb => V2_ne m d (Finset.ne_of_mem_erase hb)]
  iintro ⟨⟨Ht, Ho⟩, Hd, Hr⟩
  isplitl [Ht Hd]
  · iapply (Transfers.pointsTo_toks_join fullShare 32)
    isplitl [Hd] <;> iassumption
  isplitl [Ho] <;> iassumption

/-! ## The launch's ghost state -/

abbrev uP : UP := initOf (Pipeline.cells (Pipeline.pin (pcfgs (F := F)) adm) cellOf_inj) (Pipeline.launchToks (Pipeline.pin (pcfgs (F := F)) adm) cellOf_inj)
def u₀ : UU := (initOf (K (F := F)).hsCells (K (F := F)).hsToks, (uP (F := F), 1))

/-- What the pipeline's cells start from on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The program has one pipeline. -/
theorem pipe_one (Φ : Fin 1 → Dev nD → sProp 𝕄) :
    (bigSep Finset.univ fun d : Dev nD => bigSep Finset.univ fun p : Fin 1 => Φ p d) = bigSep Finset.univ fun d : Dev nD => Φ 0 d :=
  bigSep_congr fun _ _ => bigSep_univ_of_subsingleton (0 : Fin 1)

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (uP (F := F), (1 : Counters))) $$ Hu
  icases H with ⟨HH, HP⟩
  ihave H := (own_pair_emb embR (uP (F := F)) (1 : Counters)) $$ HP
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · ihave Hg := (Entails.of_eq (pipe_one fun p d => Pipeline.cellsGhost (Pipeline.pin (pcfgs (F := F)) adm) EP p d)) $$ Hg
    ihave Ht := (Entails.of_eq (pipe_one fun p d => Pipeline.toksInit (Pipeline.pin (pcfgs (F := F)) adm) EP p d)) $$ Ht
    rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emp_all]
  iempintro

/-! ## The TensorCore's program -/

/-- After the one call the TensorCore owes nothing. -/
theorem Otc_one (d : Dev nD) : (K (F := F)).Otc d 1 = 0 := by
  unfold SparseCore.Cfg.Otc
  rw [Fin.sum_univ_one]; rfl

/-- The unscoped arrays before the region, as the region takes them. -/
abbrev Wreg (d : Dev nD) : (b : Ref sig .tc) → Buf (Elt F) ((d.tc : Thread nD τ).loc b) := fun b => V3 m d (Proc.devRef .tc b)

/-- The result. -/
def outVal (d : Dev nD) : Vec F S4x8192x1024 .f32 := outArr (V3 m d (Proc.devRef .tc main_v4)) (V3 m d (Proc.devRef .tc main_v9))

theorem V3_arg (d : Dev nD) : V3 m d (Proc.devRef .tc main_arg0) = m ((SparseCore.T d).loc main_arg0) :=
  (StableHlo.after_of_writes_sub (W := [main_v4, main_v5, main_cst, main_v6, main_v7, main_v8, main_v9]) ops2 _
    (StableHlo.forall_writes_sub_of_map rfl) (by decide)).trans ((V2_ne m d (by decide)).trans
    (StableHlo.after_of_writes_sub (W := [main_v0, main_v1, main_v2]) ops1 _ (StableHlo.forall_writes_sub_of_map rfl) (by decide)))

/-- What the TensorCore keeps: the mask as it was, and the result. -/
abbrev FIN (d : Dev nD) : sProp 𝕄 :=
  iprop(((SparseCore.T d).loc main_arg0 ↦{fullShare} m ((SparseCore.T d).loc main_arg0))
    ∗ ((SparseCore.T d).loc main_v10 ↦{fullShare} (outVal m d : Buf (Elt F) ((SparseCore.T d).loc main_v10))))

theorem fin_intro (d : Dev nD) : (unscopedBufs d (Wend (Wreg m) d) : sProp 𝕄) ⊢ FIN m d := by
  unfold unscopedBufs
  rw [SparseCore.bigSep_erase' (show (main_arg0 : Ref sig .tc) ∈ Finset.univ.filter fun b : Ref sig .tc => ¬ b.isScoped by decide),
    SparseCore.bigSep_erase' (show (main_v10 : Ref sig .tc) ∈ (Finset.univ.filter fun b : Ref sig .tc => ¬ b.isScoped).erase main_arg0 by decide),
    Wend_ne (Wreg m) d (b := main_arg0) (by decide), Wend_out, show Wreg m d main_arg0 = m ((SparseCore.T d).loc main_arg0) from V3_arg m d]
  iintro ⟨Ha, Ho, -⟩
  isplitl [Ha]; · iexact Ha
  iexact Ho

theorem ops1_sub : ∀ op ∈ ops1 (F := F), op.bufs ⊆ Pipeline.ucRefs τ sig := by
  unfold ops1
  simp only [List.forall_mem_cons, List.not_mem_nil, false_imp_iff, implies_true, and_true]
  refine ⟨?_, ?_, ?_⟩ <;>
    simp only [StableHlo.unary_bufs, StableHlo.reshape_bufs] <;> decide

theorem ops2_sub : ∀ op ∈ ops2 (F := F), op.bufs ⊆ Pipeline.ucRefs τ sig := by
  unfold ops2
  simp only [List.forall_mem_cons, List.not_mem_nil, false_imp_iff, implies_true, and_true]
  refine ⟨?_, ?_, ?_, ?_, ?_, ?_, ?_⟩ <;>
    simp only [StableHlo.unary_bufs, StableHlo.reshape_bufs, StableHlo.nullary_bufs, StableHlo.binary_bufs] <;> decide

theorem ops1_fresh : ∀ op ∈ ops1 (F := F), op.fresh = ∅ := by
  unfold ops1
  simp only [List.forall_mem_cons, List.not_mem_nil, false_imp_iff, implies_true, and_true]
  exact ⟨rfl, rfl, rfl⟩
theorem ops2_fresh : ∀ op ∈ ops2 (F := F), op.fresh = ∅ := by
  unfold ops2
  simp only [List.forall_mem_cons, List.not_mem_nil, false_imp_iff, implies_true, and_true]
  exact ⟨rfl, rfl, rfl, rfl, rfl, rfl, rfl⟩

theorem held_launch (d : Dev nD) : (unscopedBufs d (fun b => m ((SparseCore.T d).loc b)) : sProp 𝕄)
    = StableHlo.held (d.tc : Thread nD τ) (Pipeline.ucRefs τ sig) (V0 m d) :=
  Pipeline.unscopedBufs_held d (V0 m d)

theorem held_region (d : Dev nD) : (StableHlo.held (d.tc : Thread nD τ) (Pipeline.ucRefs τ sig) (V3 m d) : sProp 𝕄)
    = unscopedBufs d (Wreg m d) :=
  (Pipeline.unscopedBufs_held d (V3 m d)).symm

/-- The region's call, in the signature under the launch's, -/
def regionProg : Prog (TpuEff nD τ sig (Elt F) (ΛP (F := F)) .tc) PUnit := .op (.customCall (Pipeline.entry 0) ()) fun _ => .ret ⟨⟩
/-- and in the launch's. -/
theorem region_lift : (Prog.lift (.customCall (SparseCore.inner (Pipeline.entry 0)) ())
      : Prog (TpuEff nD τ sig (Elt F) (SparseCore.Sig (ΛP (F := F)) 1) .tc) PUnit)
    = SparseCore.liftProg (regionProg (F := F)) := rfl

set_option backward.isDefEq.respectTransparency.types false in
set_option maxHeartbeats 1000000 in
/-- The region, run under the launch's table of bodies. -/
theorem wp_region [∀ e, Nonempty (Elt F e)] (d : Dev nD) (Q : PUnit → sProp 𝕄) :
    iprop((iprop(boundary (d.tc : Thread nD τ) ∗ unscopedBufs d (Wend (Wreg m) d) ∗ owesLow (F := F) d) -∗ Q ⟨⟩)
        ∗ boundary (d.tc : Thread nD τ) ∗ (unscopedBufs d (Wreg m d) ∗ owesLow (F := F) d) ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  rw [region_lift]
  refine BI.Entails.trans ?_ ((K (F := F)).wp_liftProg (D (F := F)) 𝒱 (SparseCore.T d) Set.univ none (regionProg (F := F)) Q)
  have h : iprop((iprop(boundary (d.tc : Thread nD τ) ∗ unscopedBufs d (Wend (Wreg m) d) ∗ owesLow (F := F) d)
          -∗ wp frame (wpE (D (F := F)) 𝒱 (d.tc : Thread nD τ) none) Set.univ (.ret ⟨⟩) Q)
        ∗ boundary (d.tc : Thread nD τ) ∗ (unscopedBufs d (Wreg m d) ∗ owesLow (F := F) d) ∗ levAts (K (F := F)).L (K (F := F)).lev ∗ G (F := F) d)
      ⊢ wp frame (wpE (D (F := F)) 𝒱 (SparseCore.T d) none) Set.univ (regionProg (F := F)) Q := by
    have h' := Pipeline.RegionSeg.wp (pcfgs (F := F)) adm (pdats (Wreg m)) (default : HIx 1) cellOf_inj EP defs₀ 𝒱₀ (K (F := F)).L (K (F := F)).lev
      (reg (Wreg m)) d none (fun _ h => nomatch h) (fun _ => .ret ⟨⟩) Q
    unfold regionProg
    exact h'
  refine BIBase.Entails.trans ?_ h
  iintro ⟨HQ, Hb, Hpre, Hlv, Hg, Ht⟩
  isplitl [HQ]
  · iintro H; rw [wp_ret]; imodintro; iapply HQ; iexact H
  isplitl [Hb]; · iexact Hb
  isplitl [Hpre]; · iexact Hpre
  isplitl [Hlv]; · iexact Hlv
  isplitl [Hg] <;> iassumption

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [held_launch, main_eq]
  iintro ⟨#Hctx, Hst, ⟨Hb, Hheld, Hts, -⟩, HG⟩
  iapply (StableHlo.wp_seq 𝒱 none Set.univ d (Pipeline.ucRefs τ sig) _ ops1 ops1_sub ops1_fresh (V0 m d)) $$ [Hb Hheld]
  · isplitl [Hb] <;> iassumption
  iintro ⟨Hb, Hheld⟩
  rw [show StableHlo.after ops1 (V0 m d) = V1 m d from rfl]
  ihave Hh := (st_intro m d) $$ Hheld
  icases Hh with ⟨Hop, Hd, Hr⟩
  rw [wp_bind]
  iapply ((K (F := F)).wp_run (D (F := F)) 𝒱 (EH := EH) (P := P m) κ d 0) $$ [Hst Hop Hd Hr Hb Hts HG]
  isplitr; · iexact Hctx
  isplitl [Hst]; · iexact Hst
  isplitl [Hop]; · iexact Hop
  iintro ⟨Hst, Hdn⟩
  ihave Hheld := (dn_elim m d) $$ [Hdn Hd Hr]
  · isplitl [Hdn]; · iexact Hdn
    isplitl [Hd] <;> iassumption
  iapply (StableHlo.wp_seq 𝒱 none Set.univ d (Pipeline.ucRefs τ sig) _ ops2 ops2_sub ops2_fresh (V2 m d)) $$ [Hb Hheld]
  · isplitl [Hb] <;> iassumption
  iintro ⟨Hb, Hheld⟩
  rw [wp_bind, show StableHlo.after ops2 (V2 m d) = V3 m d from rfl]
  unfold SparseCore.Cfg.tcSt
  icases Hst with ⟨⟨%B, %hB, HO⟩, Hst⟩
  iapply (wp_region m d)
  isplitr [Hb Hheld HO HG]
  · iintro ⟨Hb, Hub, %B', %hB', HO⟩
    rw [wp_pure]; imodintro
    isplitl [HO Hst]
    · isplitl [HO]
      · iexists B'; isplitr
        · ipureintro; exact hB'
        rw [Otc_one]; iexact HO
      iexact Hst
    isplitl [Hub]; · iapply (fin_intro m d); iexact Hub
    isplitl [Hb] <;> iassumption
  isplitl [Hb]; · iexact Hb
  isplitl [Hheld HO]
  · isplitl [Hheld]; · rw [← held_region]; iexact Hheld
    iexists B; isplitr
    · ipureintro; exact hB
    rw [show ((0 : Fin 1).val + 1) = 1 from rfl, Otc_one]; iexact HO
  isplitr [HG]
  · unfold SparseCore.Cfg.ctx; icases Hctx with ⟨Hlv, -⟩; iexact Hlv
  iexact HG

/-! ## The run -/

/-- What a device's final state has: the mask as it was, and the result. -/
def fq (d : Dev nD) (s' : Phys nD τ sig (Elt F)) : Prop :=
  s'.mem.mem ((SparseCore.T d).loc main_arg0) = m ((SparseCore.T d).loc main_arg0)
    ∧ s'.mem.mem ((SparseCore.T d).loc main_v10) = (outVal m d : Buf (Elt F) ((SparseCore.T d).loc main_v10))

theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := (SparseCore.T d).loc main_arg0) (I := Finset.univ) (q := fullShare)
    (f := m ((SparseCore.T d).loc main_arg0)))) $$ [HSI Ha]
  · isplitl [HSI] <;> iassumption
  icases H with ⟨%ha, HSI, -⟩
  ihave H := (SI_pointsTo_agree (st := s') (ℓ := (SparseCore.T d).loc main_v10) (I := Finset.univ) (q := fullShare)
    (f := (outVal m d : Buf (Elt F) ((SparseCore.T d).loc main_v10)))) $$ [HSI Ho]
  · isplitl [HSI] <;> iassumption
  icases H with %ho
  ipureintro; exact ⟨funext fun i => ha i (Finset.mem_univ i), funext fun i => ho i (Finset.mem_univ i)⟩

def QC : PUnit × MemSt nD τ sig (Elt F) → Prop := fun r =>
  (∀ d : Dev nD, r.2.mem ((SparseCore.T d).loc main_arg0) = m ((SparseCore.T d).loc main_arg0)
    ∧ r.2.mem ((SparseCore.T d).loc main_v10) = (outVal m d : Buf (Elt F) ((SparseCore.T d).loc main_v10))) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Run

end Cert.Proof
-- ==== Proof.Frames.lean ====
/-
  The three frames: the kernel's from the one run, at both instances, and the reference's from its own.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem

attribute [local instance] Cert.Kernel.Gen.facts Cert.KernelIdeal.Gen.facts

/-! The kernel's program has the same text at both instances: so have its tables of bodies. -/

theorem bodies_eq : Cert.Kernel.defs₀ (F := Bits) = Cert.KernelIdeal.defs₀ (F := Bits) := by
  funext p ℓ a
  rcases p with _ | _ | ⟨c, s⟩ <;> fin_cases ℓ <;> rfl

theorem defs_eq : Cert.Kernel.defs (F := Bits) = Cert.KernelIdeal.defs (F := Bits) :=
  congrArg (fun D => (Cert.KernelIdeal.sc (F := Bits)).defs (Pipeline.defs (Cert.KernelIdeal.pcfgs (F := Bits)) D)) bodies_eq

theorem frame_kernel : Cert.quiescent_Kernel (hKernel := Cert.Kernel.Gen.facts) := by
  intro m ρ _
  have h : θ_run (Cert.KernelIdeal.defs (F := Bits)) (Cert.KernelIdeal.threads (F := Bits)) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
    (θ_run (Cert.KernelIdeal.defs (F := Bits)) _ _).mono (fun _ h => ⟨fun c => (h.1 c).1, h.2⟩) (run_main (F := Bits) m ρ)
  rw [← defs_eq] at h
  exact h

theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩) (run_main (F := Ideal) m ρ)

/-- The reference has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.RefPos.lean ====
/-
  The reference's positions, as words: the host's running sum along a row of the mask, read at an entry.
-/
module

public import proofs.«01_k».proof.Proof.Gen.ReferenceIdeal.Run
public import Idealize.ShloMosaic.Lib.Routing.OpsOne
public import Idealize.ShloMosaic.Lib.Pointwise

@[expose] public section

noncomputable section

namespace Cert.Proof

open Cert.ReferenceIdeal
open Idealize.ShloMosaic

/-- Entry `j` of row `b`, zero past the row's end. -/
def rowW (w : IVec S4x8192 32) (b : Fin 4) (j : ℕ) : BitVec 32 := if h : j < 8192 then w (ix2 b ⟨j, h⟩) else 0

theorem foldl_addi {ι : Type} (l : List ι) (g : ι → BitVec 32) (a : BitVec 32) :
    l.foldl (fun r n => IntOp.addi r (g n)) a = a + (l.map g).sum := by
  induction l generalizing a with
  | nil => simp
  | cons x l ih =>
    rw [List.foldl_cons, ih, List.map_cons, List.sum_cons, ← add_assoc]
    rfl

/-- A window of 8192 that ends at `s`, entries before the row's start left out, holds the first `s + 1` entries. -/
theorem window_sum (f : ℕ → BitVec 32) (s : ℕ) (hs : s < 8192) :
    ∑ n ∈ Finset.range 8192, (if 8191 ≤ s + n then f (s + n - 8191) else 0) = ∑ j ∈ Finset.range (s + 1), f j := by
  conv_lhs => rw [show 8192 = (8191 - s) + (s + 1) by omega, Finset.sum_range_add]
  rw [Finset.sum_eq_zero (s := Finset.range (8191 - s)) (fun n hn => if_neg (by have := Finset.mem_range.mp hn; omega)), zero_add]
  refine Finset.sum_congr rfl fun j _ => ?_
  rw [if_pos (by omega), show s + (8191 - s + j) - 8191 = j by omega]

/-- The host's running sum along a row, at an entry. -/
theorem cumsum_at (w : IVec S4x8192 32) (init : IVec S_ 32) (hi : ∀ i, init i = 0#32)
    (h : S4x8192.ReduceWindows ![1, 8192] ![1, 1] ![0, 8191] ![0, 0] S4x8192) (hu : 0 < S_.numel) (b : Fin 4) (s : Fin 8192) :
    Host.reduceWindow IntOp.addi ![1, 8192] ![1, 1] ![0, 8191] ![0, 0] w init h hu (ix2 b s)
      = ∑ j ∈ Finset.range (s.val + 1), rowW w b j := by
  unfold Host.reduceWindow
  dsimp only
  rw [foldl_addi, hi, BitVec.zero_add, ← Fin.sum_univ_def, ← window_sum _ _ s.isLt]
  refine (Finset.sum_congr rfl fun n _ => (?_ : _ = (fun n : ℕ => if 8191 ≤ s.val + n then rowW w b (s.val + n - 8191) else 0) n.val)).trans
    ((Fin.sum_univ_eq_sum_range _ _).trans (by rw [Routing.numel2 8192]))
  have e0 : ((⟨2, ![1, 8192]⟩ : Shape).rowMajor.symm n 0).val = 0 := by rw [Routing.symm2]; rfl
  have e1 : ((⟨2, ![1, 8192]⟩ : Shape).rowMajor.symm n 1).val = n.val := by rw [Routing.symm2]; rfl
  have hb := b.isLt
  have hn : n.val < 8192 := lt_of_lt_of_eq n.isLt (Routing.numel2 8192)
  have hs := s.isLt
  dsimp only
  by_cases hle : 8191 ≤ s.val + n.val
  · rw [if_pos hle]
    unfold rowW
    rw [dif_pos (show s.val + n.val - 8191 < 8192 by omega)]
    refine (dif_pos (fun a => ?_)).trans (congrArg w (funext fun a => Fin.ext ?_))
    · match a with
      | ⟨0, _⟩ =>
        show 0 ≤ b.val * 1 + ((⟨2, ![1, 8192]⟩ : Shape).rowMajor.symm n 0).val ∧ b.val * 1 + ((⟨2, ![1, 8192]⟩ : Shape).rowMajor.symm n 0).val - 0 < 4
        omega
      | ⟨1, _⟩ =>
        show 8191 ≤ s.val * 1 + ((⟨2, ![1, 8192]⟩ : Shape).rowMajor.symm n 1).val ∧ s.val * 1 + ((⟨2, ![1, 8192]⟩ : Shape).rowMajor.symm n 1).val - 8191 < 8192
        omega
    · match a with
      | ⟨0, _⟩ =>
        show b.val * 1 + ((⟨2, ![1, 8192]⟩ : Shape).rowMajor.symm n 0).val - 0 = b.val
        omega
      | ⟨1, _⟩ =>
        show s.val * 1 + ((⟨2, ![1, 8192]⟩ : Shape).rowMajor.symm n 1).val - 8191 = s.val + n.val - 8191
        omega
  · rw [if_neg hle]
    refine (dif_neg fun hin => hle ?_).trans rfl
    have h1 := (hin 1).1
    change 8191 ≤ s.val * 1 + ((⟨2, ![1, 8192]⟩ : Shape).rowMajor.symm n 1).val at h1
    omega

/-! ## The words of a mask -/

/-- The number of set bits of row `b` of the mask's complement among its first `n`. -/
def cnt (a : IVec S4x8192 1) (b : Fin 4) (n : ℕ) : ℕ := ∑ j ∈ Finset.range n, if h : j < 8192 then (if a (ix2 b ⟨j, h⟩) = 0#1 then 1 else 0) else 0

theorem cnt_le (a : IVec S4x8192 1) (b : Fin 4) (n : ℕ) : cnt a b n ≤ n := by
  unfold cnt
  refine (Finset.sum_le_card_nsmul _ _ 1 fun j _ => ?_).trans (by simp)
  split_ifs <;> omega

theorem cnt_word (a : IVec S4x8192 1) (w : IVec S4x8192 32) (hw : ∀ b s, w (ix2 b s) = if a (ix2 b s) = 0#1 then 1#32 else 0#32) (b : Fin 4) (n : ℕ) :
    ∑ j ∈ Finset.range n, rowW w b j = BitVec.ofNat 32 (cnt a b n) := by
  unfold cnt
  induction n with
  | zero => rfl
  | succ n ih =>
    rw [Finset.sum_range_succ, Finset.sum_range_succ, BitVec.ofNat_add, ih]
    congr 1
    unfold rowW
    by_cases h : n < 8192
    · rw [dif_pos h, dif_pos h, hw]; split_ifs <;> rfl
    · rw [dif_neg h, dif_neg h]; rfl

/-- The position of an entry: its running count if the entry is not masked, zero if it is. -/
def posN (a : IVec S4x8192 1) (b : Fin 4) (s : Fin 8192) : ℕ := if a (ix2 b s) = 0#1 then cnt a b (s.val + 1) else 0

theorem posN_lt (a : IVec S4x8192 1) (b : Fin 4) (s : Fin 8192) : posN a b s < 8193 := by
  have h := cnt_le a b (s.val + 1)
  have hs := s.isLt
  unfold posN
  split_ifs <;> omega

theorem posN_word (a : IVec S4x8192 1) (b : Fin 4) (s : Fin 8192) :
    BitVec.ofNat 32 (cnt a b (s.val + 1)) * (if a (ix2 b s) = 0#1 then 1#32 else 0#32) = BitVec.ofNat 32 (posN a b s) := by
  unfold posN
  split_ifs <;> simp

end Cert.Proof

end
-- ==== Proof.RefValue.lean ====
/-
  The reference's result at an entry: the table's row of the entry's position.
-/
module

public import proofs.«01_k».proof.Proof.RefPos

@[expose] public section

noncomputable section

namespace Cert.Proof

open Cert.ReferenceIdeal Cert.ReferenceIdeal.Gen
open Idealize.ShloMosaic

/-- The mask's complement as words. -/
def wA (a : IVec S4x8192 1) : IVec S4x8192 32 :=
  select (noti a) (broadcastInDim S4x8192 ![] bcast_S_S4x8192 (constantI S_ 32 1#32)) (broadcastInDim S4x8192 ![] bcast_S_S4x8192 (constantI S_ 32 0#32))

/-- The positions, flat. -/
def qA (a : IVec S4x8192 1) : IVec S32768 32 :=
  shapeCast _ (addi (muli (Host.reduceWindow IntOp.addi ![1, 8192] ![1, 1] ![0, 8191] ![0, 0] (id (wA a)) (broadcastInDim S_ ![] bcast_S_S_ (constantI S_ 32 0#32)) reduceWindows_S4x8192_S4x8192_w1s1p0_0_w8192s1p8191_0 h_S_) (id (wA a))) (broadcastInDim S4x8192 ![] bcast_S_S4x8192 (constantI S_ 32 0#32))) shapeCasts_S4x8192_S32768

/-- The row numbers that the take reads, negative ones wrapped. -/
def iA (a : IVec S4x8192 1) : IVec S32768x1 32 :=
  broadcastInDim S32768x1 ![0] bcast_S32768_S32768x1_0 (select (cmpi .slt (qA a) (broadcastInDim S32768 ![] bcast_S_S32768 (constantI S_ 32 0#32)))
    (addi (qA a) (broadcastInDim S32768 ![] bcast_S_S32768 (constantI S_ 32 8193#32))) (qA a))

/-- The frequencies. -/
def freqA : FVec Ideal S512 .f32 :=
  Host.exp (mulf (sitofp .f32 (iotaInDim S512 32 0)) (broadcastInDim S512 ![] bcast_S_S512 (constant S_ .f32 0xBC93A762#32)))

/-- Row number times frequency. -/
def angA : FVec Ideal S8193x512 .f32 :=
  mulf (broadcastInDim S8193x512 ![0, 1] bcast_S8193x1_S8193x512_0_1 (broadcastInDim S8193x1 ![0] bcast_S8193_S8193x1_0 (sitofp .f32 (iotaInDim S8193 32 0))))
    (broadcastInDim S8193x512 ![0, 1] bcast_S1x512_S8193x512_0_1 (broadcastInDim S1x512 ![1] bcast_S512_S1x512_1 freqA))

/-- Sines beside cosines, before the padding row is set. -/
def rawA : FVec Ideal S8193x1024 .f32 :=
  concatenate S8193x1024 1 [⟨S8193x512, Host.sin angA⟩, ⟨S8193x512, Host.cos angA⟩] concatenates_S8193x512_S8193x512_S8193x1024_d1

def tabA : FVec Ideal S8193x1024 .f32 :=
  Host.scatter scatter_S8193x1024_S1_S1024_0_0_0_0 (fun _ b => b) rawA (broadcastInDim S1 ![] bcast_S_S1 (constantI S_ 32 0#32))
    (broadcastInDim S1024 ![] bcast_S_S1024 (constant S_ .f32 0x00000000#32))

def okA (a : IVec S4x8192 1) : IVec S32768 1 :=
  Host.reduce IntOp.andi (andi (cmpi .sge (iA a) (broadcastInDim S32768x1 ![] bcast_S_S32768x1 (constantI S_ 32 0#32)))
    (cmpi .sle (iA a) (broadcastInDim S32768x1 ![0, 1] bcast_S1x1_S32768x1_0_1 (broadcastInDim S1x1 ![1] bcast_S1_S1x1_1 (constantI S1 32 8192#32)))))
    (constantI S_ 1 1#1) reducesTo_S32768x1_S32768_d1 h_S_

def outA (a : IVec S4x8192 1) : FVec Ideal S4x8192x1024 .f32 :=
  shapeCast _ (select (broadcastInDim S32768x1024 ![0] bcast_S32768_S32768x1024_0 (okA a))
    (Host.gather gather_S8193x1024_S32768x1_S32768x1024_1_0_n_n_0_1_11024 tabA (iA a))
    (broadcastInDim S32768x1024 ![] bcast_S_S32768x1024 (constant S_ .f32 0x7FC00000#32))) shapeCasts_S32768x1024_S4x8192x1024

set_option maxRecDepth 8192 in
theorem res_eq (m : (ℓ : Loc nD τ sig) → Buf (Elt Ideal) ℓ) (c : Dev nD) :
    Value.res_main_v25 m c = outA (m ((c.tc : Thread nD τ).loc main_arg0)) := rfl

/-- An entry of the words: one where the mask is clear, zero where it is set. -/
theorem wA_apply (a : IVec S4x8192 1) (b : Fin 4) (s : Fin 8192) : wA a (ix2 b s) = if a (ix2 b s) = 0#1 then 1#32 else 0#32 := by
  pointwise [wA]
  generalize a (ix2 b s) = x
  revert x; decide

theorem ofNat_lt (n : ℕ) (h : n < 8193) : (BitVec.ofNat 32 n).toNat = n := by
  rw [BitVec.toNat_ofNat]; omega

/-- An entry of the flat positions. -/
theorem qA_apply (a : IVec S4x8192 1) (g : Fin 32768) (b : Fin 4) (s : Fin 8192) (hg : g.val = 8192 * b.val + s.val) :
    qA a (ix1 g) = BitVec.ofNat 32 (posN a b s) := by
  have hs := s.isLt
  pointwise [qA]
  have e : ∀ h h', (ix2 (⟨g.val / 8192, h⟩ : Fin 4) (⟨g.val % 8192, h'⟩ : Fin 8192) : S4x8192.Idx) = ix2 b s := fun h h' =>
    congrArg₂ ix2 (Fin.ext (show g.val / 8192 = b.val by omega)) (Fin.ext (show g.val % 8192 = s.val by omega))
  rw [e, cumsum_at (id (wA a)) (broadcastInDim S_ ![] bcast_S_S_ (constantI S_ 32 0#32)) (fun _ => rfl), id_eq, cnt_word a (wA a) (wA_apply a), wA_apply]
  exact (BitVec.add_zero _).trans (posN_word a b s)

/-- The row number read for an entry: positions are not negative, so nothing wraps. -/
theorem iA_apply (a : IVec S4x8192 1) (g : Fin 32768) (x : Fin 1) (b : Fin 4) (s : Fin 8192) (hg : g.val = 8192 * b.val + s.val) :
    iA a (ix2 g x) = BitVec.ofNat 32 (posN a b s) := by
  have h := posN_lt a b s
  pointwise [iA]
  rw [Routing.wrap_of_lt _ _ (by rw [qA_apply a g b s hg, ofNat_lt _ h]; omega), qA_apply a g b s hg]

/-- Every row number is within the table. -/
theorem okA_apply (a : IVec S4x8192 1) (g : Fin 32768) (b : Fin 4) (s : Fin 8192) (hg : g.val = 8192 * b.val + s.val) : okA a (ix1 g) = 1#1 := by
  have h := posN_lt a b s
  pointwise [okA]
  rw [Finset.univ_unique, Finset.fold_singleton, iA_apply a g _ b s hg]
  generalize posN a b s = n at h
  have hn := ofNat_lt n h
  have e : (BitVec.ofNat 32 n).toInt = n := by rw [BitVec.toInt_eq_toNat_of_lt (by omega), hn]
  have h1 : BitVec.sle 0#32 (BitVec.ofNat 32 n) = true := by
    rw [BitVec.sle, e]; exact decide_eq_true (show (0 : Int) ≤ n by omega)
  have h2 : BitVec.sle (BitVec.ofNat 32 n) 8192#32 = true := by
    rw [BitVec.sle, e]; exact decide_eq_true (show (n : Int) ≤ 8192 by omega)
  unfold IntOp.cmpi
  dsimp only
  rw [h1, h2]; rfl

/-- Row `r` of the table before its padding row is set. -/
theorem rawA_apply (r : Fin 8193) (k : Fin 1024) : rawA (ix2 r k)
    = if h : k.val < 512 then Ideal.sin (FloatOps.sitofp (F := Ideal) FTy.f32 (BitVec.ofNat 32 r.val) * freqA (ix1 ⟨k.val, h⟩))
      else Ideal.cos (FloatOps.sitofp (F := Ideal) FTy.f32 (BitVec.ofNat 32 r.val) * freqA (ix1 ⟨k.val - 512, by omega⟩)) := by
  pointwise [rawA, angA]

/-- An update that writes row zero lands at row zero, in its own column. -/
theorem row_lands (i : IVec S1 32) (hi : i (ix1 0) = 0#32) (k : Fin 1024) (r : Fin 8193) (c : Fin 1024) :
    scatter_S8193x1024_S1_S1024_0_0_0_0.resultIdx? (ix1 k) i = some (ix2 r c) ↔ r.val = 0 ∧ c = k := by
  have w0 : scatter_S8193x1024_S1_S1024_0_0_0_0.window (ix1 k) 0 = 0 := rfl
  have w1 : scatter_S8193x1024_S1_S1024_0_0_0_0.window (ix1 k) 1 = k.val := rfl
  have s0 : scatter_S8193x1024_S1_S1024_0_0_0_0.start (ix1 k) i 0 = (i (ix1 0)).toInt := by
    have hm : (0 : Fin 2) ∈ scatter_S8193x1024_S1_S1024_0_0_0_0.scatterDimsToOperandDims := by decide
    have hz : ∀ z : S1.Idx, z = ix1 0 := fun z => by
      funext x; match x with | 0 => exact Subsingleton.elim (α := Fin 1) _ _
    unfold ScatterDims.start
    rw [dif_pos hm, hz (ScatterDims.siIdx _ _ _)]
  have s1 : scatter_S8193x1024_S1_S1024_0_0_0_0.start (ix1 k) i 1 = 0 := rfl
  refine (Routing.resultIdx?_ix2 scatter_S8193x1024_S1_S1024_0_0_0_0 (ix1 k) i r c).trans ?_
  rw [w0, w1, s0, s1, hi, Fin.ext_iff]
  show (0 : Int) + 0 = r.val ∧ (0 : Int) + k.val = c.val ↔ _
  omega

/-- The table: row zero is zero, the others hold sines and cosines. -/
theorem tabA_apply (r : Fin 8193) (k : Fin 1024) : tabA (ix2 r k) = if r.val = 0 then 0 else rawA (ix2 r k) := by
  have hi : (broadcastInDim S1 ![] bcast_S_S1 (constantI S_ 32 0#32) : IVec S1 32) (ix1 0) = 0#32 := rfl
  have hu : ∀ j : S1024.Idx, (broadcastInDim S1024 ![] bcast_S_S1024 (constant S_ .f32 0x00000000#32) : FVec Ideal S1024 .f32) j = 0 := fun j => by
    pointwise
  have hj : ∀ j : S1024.Idx, j = ix1 (j 0) := fun j => by funext x; match x with | 0 => rfl
  unfold tabA
  by_cases h : r.val = 0
  · rw [if_pos h]
    exact Routing.scatter_set_hit _ _ _ _ _ _ (fun j _ => hu j) (ix1 k) ((row_lands _ hi k r k).2 ⟨h, rfl⟩)
  · rw [if_neg h]
    refine Routing.scatter_set_miss _ _ _ _ _ fun j hl => h ?_
    rw [hj j] at hl
    exact ((row_lands _ hi _ r k).1 hl).1

/-- The take of a table at a row number within it. -/
theorem gather_at (t : FVec Ideal S8193x1024 .f32) (i : IVec S32768x1 32) (g : Fin 32768) (k : Fin 1024) (r : Fin 8193)
    (hi : i (ix2 g 0) = BitVec.ofNat 32 r.val) :
    Host.gather gather_S8193x1024_S32768x1_S32768x1024_1_0_n_n_0_1_11024 t i (ix2 g k) = t (ix2 r k) :=
  Routing.gather_row gather_S8193x1024_S32768x1_S32768x1024_1_0_n_n_0_1_11024 rfl rfl rfl rfl rfl t i g k r hi (by decide)

/-- The reference's result at an entry. -/
theorem outA_apply (a : IVec S4x8192 1) (b : Fin 4) (s : Fin 8192) (k : Fin 1024) :
    outA a (ix3 b s k) = tabA (ix2 ⟨posN a b s, posN_lt a b s⟩ k) := by
  have hs := s.isLt
  have hb := b.isLt
  pointwise [outA]
  have hg : ∀ h, (⟨b.val * 8192 + s.val, h⟩ : Fin 32768).val = 8192 * b.val + s.val := fun _ => by show b.val * 8192 + s.val = _; omega
  rw [okA_apply a _ b s (hg _), gather_at _ _ _ _ ⟨posN a b s, posN_lt a b s⟩ (iA_apply a _ 0 b s (hg _))]
  rfl

end Cert.Proof

end
-- ==== Proof.Algebraic.lean ====
/-
  The kernel's result over the extended reals is the reference's: each entry is the sine or the cosine of its position times
  a frequency, and zero where the mask is set.
-/
module

public import proofs.«01_k».proof.Proof.Frames
public import proofs.«01_k».proof.Proof.RefValue

@[expose] public section

noncomputable section

namespace Cert.Proof

open Cert.KernelIdeal Cert.KernelIdeal.Gen
open Idealize.ShloMosaic Idealize.SL.Sem

/-! ## The positions -/

/-- The mask's words, flat. -/
def xA (a : IVec S4x8192 1) : IVec S32768 32 := shapeCast _ (extui 32 (noti a) natLt_1_32) shapeCasts_S4x8192_S32768

/-- An entry of the flat words: one where the mask is clear, zero where it is set. -/
theorem xA_apply (a : IVec S4x8192 1) (g : Fin 32768) (b : Fin 4) (s : Fin 8192) (hg : g.val = 8192 * b.val + s.val) :
    xA a (ix1 g) = if a (ix2 b s) = 0#1 then 1#32 else 0#32 := by
  have hs := s.isLt
  pointwise [xA]
  have e : ∀ h h', (ix2 (⟨g.val / 8192, h⟩ : Fin 4) (⟨g.val % 8192, h'⟩ : Fin 8192) : S4x8192.Idx) = ix2 b s := fun h h' => by
    rw [show (⟨g.val / 8192, h⟩ : Fin 4) = b from Fin.ext (show g.val / 8192 = b.val by omega),
      show (⟨g.val % 8192, h'⟩ : Fin 8192) = s from Fin.ext (show g.val % 8192 = s.val by omega)]
  rw [e]
  generalize a (ix2 b s) = x; revert x; decide

/-- A row of the flat words is the reference's row of words. -/
theorem xw_xA (a : IVec S4x8192 1) (b : Fin 4) (j : ℕ) (hj : j < 8192) : xw (xA a) (8192 * b.val + j) = rowW (wA a) b j := by
  have hb := b.isLt
  unfold xw rowW
  rw [dif_pos (show 8192 * b.val + j < 32768 by omega), dif_pos hj, wA_apply]
  exact (xA_apply a ⟨8192 * b.val + j, by omega⟩ b ⟨j, hj⟩ rfl)

/-- The word that the SparseCore stores for an entry is the entry's position. -/
theorem posW_xA (a : IVec S4x8192 1) (b : Fin 4) (s : Fin 8192) : posW (xA a) (8192 * b.val + s.val) = BitVec.ofNat 32 (posN a b s) := by
  have hs := s.isLt
  rw [← posW_row _ _ _ hs, xw_xA a b s.val hs, ← posN_word]
  congr 1
  · rw [← cnt_word a (wA a) (wA_apply a)]
    refine Finset.sum_congr rfl fun j hj => xw_xA a b j ?_
    have := Finset.mem_range.mp hj
    omega
  · unfold rowW
    rw [dif_pos hs, wA_apply]

/-! ## An entry -/

/-- A position's word as a number. -/
theorem pos_val (n : ℕ) (hn : n < 8193) : FloatOps.sitofp (F := Ideal) FTy.f32 (BitVec.ofNat 32 n) = (((n : ℝ)) : EReal) := by
  have e : (BitVec.ofNat 32 n).toInt = (n : Int) := StableHlo.Predicate.toInt_ofNat_small _ (by omega)
  show (((BitVec.ofNat 32 n).toInt : ℝ) : EReal) = _
  rw [e]; norm_cast

/-- The kernel's mask is zero at position zero and one at every other. -/
theorem maskE_val (n : ℕ) (hn : n < 8193) : maskE (F := Ideal) (FloatOps.sitofp (F := Ideal) FTy.f32 (BitVec.ofNat 32 n)) = if n = 0 then 0 else 1 := by
  rw [pos_val n hn]
  unfold maskE
  have h0 : (FloatOps.ofBits FTy.f32 0#32 : Ideal .f32) = (0 : EReal) := by pointwise
  rw [h0]
  by_cases h : n = 0
  · subst h
    rw [if_pos rfl]
    have hc : FloatOps.cmpf (F := Ideal) (φ := .f32) .ogt (((0 : ℕ) : ℝ) : EReal) (0 : EReal) = 0#1 := by
      show BitVec.ofBool (decide ((0 : EReal) < (((0 : ℕ) : ℝ) : EReal))) = 0#1
      rw [decide_eq_false (by simp)]; rfl
    rw [hc]
    show ((((BitVec.setWidth 32 0#1).toInt : ℝ)) : EReal) = 0
    rw [show (BitVec.setWidth 32 0#1).toInt = 0 from rfl]; simp
  · rw [if_neg h]
    have hc : FloatOps.cmpf (F := Ideal) (φ := .f32) .ogt ((n : ℝ) : EReal) (0 : EReal) = 1#1 := by
      show BitVec.ofBool (decide ((0 : EReal) < ((n : ℝ) : EReal))) = 1#1
      rw [decide_eq_true (EReal.coe_pos.mpr (Nat.cast_pos.mpr (Nat.pos_of_ne_zero h)))]; rfl
    rw [hc]
    show ((((BitVec.setWidth 32 1#1).toInt : ℝ)) : EReal) = 1
    rw [show (BitVec.setWidth 32 1#1).toInt = 1 from rfl]; simp

/-- What the TensorCore's region reads as positions. -/
theorem V3_pos (m : (ℓ : Loc nD τ sig) → Buf (Elt Ideal) ℓ) (d : Dev nD) : V3 m d (Proc.devRef .tc main_v4)
    = shapeCast _ (posV (F := Ideal) (xA (m ((SparseCore.T d).loc main_arg0)))) shapeCasts_S32768_S4x8192x1 := by
  rfl

/-- What the TensorCore's region reads as frequencies: the reference's own. -/
theorem V3_freq (m : (ℓ : Loc nD τ sig) → Buf (Elt Ideal) ℓ) (d : Dev nD) : V3 m d (Proc.devRef .tc main_v9)
    = shapeCast _ freqA shapeCasts_S512_S1x512 := by
  rfl

/-- An entry of the column of positions. -/
theorem pos_apply (a : IVec S4x8192 1) (b : Fin 4) (s : Fin 8192) :
    (shapeCast _ (posV (F := Ideal) (xA a)) shapeCasts_S32768_S4x8192x1 : FVec Ideal S4x8192x1 .f32) (ix3 b s 0)
      = FloatOps.sitofp (F := Ideal) FTy.f32 (BitVec.ofNat 32 (posN a b s)) := by
  rw [← posW_xA a b s]
  pointwise [posV]
  rw [Nat.mul_comm]

/-- An entry of the row of frequencies. -/
theorem freq_apply (i : Fin 512) :
    (shapeCast _ freqA shapeCasts_S512_S1x512 : FVec Ideal S1x512 .f32) (ix2 0 i) = freqA (ix1 i) := by
  pointwise

/-- The two results agree at an entry: at position zero both are zero, elsewhere both are the sine or the cosine. -/
theorem outVal_apply (m : (ℓ : Loc nD τ sig) → Buf (Elt Ideal) ℓ) (d : Dev nD) (b : Fin 4) (s : Fin 8192) (k : Fin 1024) :
    outVal (F := Ideal) m d (ix3 b s k) = outA (m ((SparseCore.T d).loc main_arg0)) (ix3 b s k) := by
  have hk := k.isLt
  rw [outA_apply, tabA_apply, rawA_apply]
  unfold outVal
  rw [V3_pos, V3_freq]
  generalize m ((SparseCore.T d).loc main_arg0) = a
  show (if k.val < 512 then sinE ((shapeCast _ (posV (F := Ideal) (xA a)) shapeCasts_S32768_S4x8192x1 : FVec Ideal S4x8192x1 .f32) (ix3 b s 0))
      ((shapeCast _ freqA shapeCasts_S512_S1x512 : FVec Ideal S1x512 .f32) (ix2 0 (hcol k.val)))
    else cosE ((shapeCast _ (posV (F := Ideal) (xA a)) shapeCasts_S32768_S4x8192x1 : FVec Ideal S4x8192x1 .f32) (ix3 b s 0))
      ((shapeCast _ freqA shapeCasts_S512_S1x512 : FVec Ideal S1x512 .f32) (ix2 0 (hcol k.val)))) = _
  rw [pos_apply, freq_apply]
  unfold sinE cosE
  rw [maskE_val _ (posN_lt a b s)]
  by_cases hn : posN a b s = 0
  · rw [if_pos hn, if_pos hn]
    split_ifs
    · exact mul_zero (M₀ := EReal) _
    · exact mul_zero (M₀ := EReal) _
  · rw [if_neg hn, if_neg hn]
    by_cases h : k.val < 512
    · rw [if_pos h, dif_pos h, show hcol k.val = ⟨k.val, h⟩ from Fin.ext (Nat.mod_eq_of_lt h)]
      exact mul_one (M := EReal) _
    · rw [if_neg h, dif_neg h, show hcol k.val = ⟨k.val - 512, by omega⟩ from Fin.ext (show k.val % 512 = k.val - 512 by omega)]
      exact mul_one (M := EReal) _

/-- The kernel's result, whole, is the reference's. -/
theorem outVal_eq (m : (ℓ : Loc nD τ sig) → Buf (Elt Ideal) ℓ) (d : Dev nD) :
    outVal (F := Ideal) m d = outA (m ((SparseCore.T d).loc main_arg0)) := by
  funext z
  have hz : z = ix3 (z 0) (z 1) (z 2) := by funext x; match x with | 0 => rfl | 1 => rfl | 2 => rfl
  rw [hz]
  exact outVal_apply m d _ _ _

/-- Kernel and reference compute the same function over the extended reals. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => outVal (F := Ideal) m c, ?_, ?_⟩
  · exact (θ_run Cert.KernelIdeal.defs _ _).mono (fun _ h c => ⟨(h.1 c).2, (h.1 c).1⟩) (run_main (F := Ideal) m g)
  · refine (θ_run Cert.ReferenceIdeal.defs _ _).mono (fun r h c => ⟨(h c).1.trans ?_, (h c).2⟩) (Cert.ReferenceIdeal.Value.run (F := Ideal) m' g')
    rw [res_eq]
    exact (congrArg outA (hm c)).trans (outVal_eq m c).symm

end Cert.Proof

end
-- ==== Proof.lean ====
/-
  The claim: the three frames, the idealization that rewrote nothing, and the equality over the extended reals.
-/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
